-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_m" .f32 0x3C4CCCCD#32 ((80⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_v175) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x80 : Shape := ⟨3, ![16, 4096, 80]⟩
abbrev S_ : Shape := ⟨0, ![]⟩
abbrev S4095 : Shape := ⟨1, ![4095]⟩
abbrev S1 : Shape := ⟨1, ![1]⟩
abbrev S4096 : Shape := ⟨1, ![4096]⟩
abbrev S1x4096 : Shape := ⟨2, ![1, 4096]⟩
abbrev S63 : Shape := ⟨1, ![63]⟩
abbrev S64 : Shape := ⟨1, ![64]⟩
abbrev S1x64x1 : Shape := ⟨3, ![1, 64, 1]⟩
abbrev S16x1x6 : Shape := ⟨3, ![16, 1, 6]⟩
abbrev S16x64x5 : Shape := ⟨3, ![16, 64, 5]⟩
abbrev S4x4096x80 : Shape := ⟨3, ![4, 4096, 80]⟩
abbrev S4x1x6 : Shape := ⟨3, ![4, 1, 6]⟩
abbrev S4x64x5 : Shape := ⟨3, ![4, 64, 5]⟩
abbrev S4x80x4096 : Shape := ⟨3, ![4, 80, 4096]⟩
abbrev S4x80x1 : Shape := ⟨3, ![4, 80, 1]⟩
abbrev S4x80x4095 : Shape := ⟨3, ![4, 80, 4095]⟩
abbrev S4x4096 : Shape := ⟨2, ![4, 4096]⟩
abbrev S4 : Shape := ⟨1, ![4]⟩
abbrev S4x1 : Shape := ⟨2, ![4, 1]⟩
abbrev S4x4095 : Shape := ⟨2, ![4, 4095]⟩
abbrev S4x2 : Shape := ⟨2, ![4, 2]⟩
abbrev S4x4094 : Shape := ⟨2, ![4, 4094]⟩
abbrev S4x4 : Shape := ⟨2, ![4, 4]⟩
abbrev S4x4092 : Shape := ⟨2, ![4, 4092]⟩
abbrev S4x8 : Shape := ⟨2, ![4, 8]⟩
abbrev S4x4088 : Shape := ⟨2, ![4, 4088]⟩
abbrev S4x16 : Shape := ⟨2, ![4, 16]⟩
abbrev S4x4080 : Shape := ⟨2, ![4, 4080]⟩
abbrev S4x32 : Shape := ⟨2, ![4, 32]⟩
abbrev S4x4064 : Shape := ⟨2, ![4, 4064]⟩
abbrev S4x64 : Shape := ⟨2, ![4, 64]⟩
abbrev S4x4032 : Shape := ⟨2, ![4, 4032]⟩
abbrev S4x128 : Shape := ⟨2, ![4, 128]⟩
abbrev S4x3968 : Shape := ⟨2, ![4, 3968]⟩
abbrev S4x256 : Shape := ⟨2, ![4, 256]⟩
abbrev S4x3840 : Shape := ⟨2, ![4, 3840]⟩
abbrev S4x512 : Shape := ⟨2, ![4, 512]⟩
abbrev S4x3584 : Shape := ⟨2, ![4, 3584]⟩
abbrev S4x1024 : Shape := ⟨2, ![4, 1024]⟩
abbrev S4x3072 : Shape := ⟨2, ![4, 3072]⟩
abbrev S4x2048 : Shape := ⟨2, ![4, 2048]⟩
abbrev S4x6 : Shape := ⟨2, ![4, 6]⟩
abbrev S4x1x4096 : Shape := ⟨3, ![4, 1, 4096]⟩
abbrev S4x64x4096 : Shape := ⟨3, ![4, 64, 4096]⟩
abbrev S4x64x1 : Shape := ⟨3, ![4, 64, 1]⟩
abbrev S4x4096x64 : Shape := ⟨3, ![4, 4096, 64]⟩
abbrev S4x1x64 : Shape := ⟨3, ![4, 1, 64]⟩
abbrev S4x8x4096 : Shape := ⟨3, ![4, 8, 4096]⟩
abbrev S4x8x4095 : Shape := ⟨3, ![4, 8, 4095]⟩
abbrev S4x8x1 : Shape := ⟨3, ![4, 8, 1]⟩
abbrev S4x16x4096 : Shape := ⟨3, ![4, 16, 4096]⟩
abbrev S4x16x64 : Shape := ⟨3, ![4, 16, 64]⟩
abbrev S4x5x64 : Shape := ⟨3, ![4, 5, 64]⟩
abbrev S4x5 : Shape := ⟨2, ![4, 5]⟩
abbrev S4x1x5 : Shape := ⟨3, ![4, 1, 5]⟩
abbrev S16x6 : Shape := ⟨2, ![16, 6]⟩

abbrev nBuf : Space → Nat
  | .hbm => 52
  | .vmem => 8
  | .smem => 0
  | _ => 0

abbrev bufTy : (tb : Table) → Fin (tcTables nBuf tb) → BufTy
  | .hbm, ⟨0, _⟩ => ⟨S16x4096x80, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4095, .f32⟩
  | .hbm, ⟨9, _⟩ => ⟨S_, .f32⟩
  | .hbm, ⟨10, _⟩ => ⟨S4095, .f32⟩
  | .hbm, ⟨11, _⟩ => ⟨S4095, .f32⟩
  | .hbm, ⟨12, _⟩ => ⟨S1, .f32⟩
  | .hbm, ⟨13, _⟩ => ⟨S_, .f32⟩
  | .hbm, ⟨14, _⟩ => ⟨S4095, .f32⟩
  | .hbm, ⟨15, _⟩ => ⟨S4095, .f32⟩
  | .hbm, ⟨16, _⟩ => ⟨S4095, .f32⟩
  | .hbm, ⟨17, _⟩ => ⟨S4095, .f32⟩
  | .hbm, ⟨18, _⟩ => ⟨S1, .f32⟩
  | .hbm, ⟨19, _⟩ => ⟨S4095, .f32⟩
  | .hbm, ⟨20, _⟩ => ⟨S4095, .f32⟩
  | .hbm, ⟨21, _⟩ => ⟨S4095, .f32⟩
  | .hbm, ⟨22, _⟩ => ⟨S1, .f32⟩
  | .hbm, ⟨23, _⟩ => ⟨S4096, .f32⟩
  | .hbm, ⟨24, _⟩ => ⟨S1x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S63, .f32⟩
  | .hbm, ⟨33, _⟩ => ⟨S_, .f32⟩
  | .hbm, ⟨34, _⟩ => ⟨S63, .f32⟩
  | .hbm, ⟨35, _⟩ => ⟨S63, .f32⟩
  | .hbm, ⟨36, _⟩ => ⟨S1, .f32⟩
  | .hbm, ⟨37, _⟩ => ⟨S_, .f32⟩
  | .hbm, ⟨38, _⟩ => ⟨S63, .f32⟩
  | .hbm, ⟨39, _⟩ => ⟨S63, .f32⟩
  | .hbm, ⟨40, _⟩ => ⟨S63, .f32⟩
  | .hbm, ⟨41, _⟩ => ⟨S63, .f32⟩
  | .hbm, ⟨42, _⟩ => ⟨S1, .f32⟩
  | .hbm, ⟨43, _⟩ => ⟨S63, .f32⟩
  | .hbm, ⟨44, _⟩ => ⟨S63, .f32⟩
  | .hbm, ⟨45, _⟩ => ⟨S63, .f32⟩
  | .hbm, ⟨46, _⟩ => ⟨S1, .f32⟩
  | .hbm, ⟨47, _⟩ => ⟨S64, .f32⟩
  | .hbm, ⟨48, _⟩ => ⟨S1x64x1, .f32⟩
  | .hbm, ⟨49, _⟩ => ⟨S16x1x6, .f32⟩
  | .hbm, ⟨50, _⟩ => ⟨S16x64x5, .f32⟩
  | .hbm, ⟨51, _⟩ => ⟨S16x6, .f32⟩
  | .local _ .vmem, ⟨0, _⟩ => ⟨S4x4096x80, .f32⟩
  | .local _ .vmem, ⟨1, _⟩ => ⟨S4x4096x80, .f32⟩
  | .local _ .vmem, ⟨2, _⟩ => ⟨S1x4096, .f32⟩
  | .local _ .vmem, ⟨3, _⟩ => ⟨S1x64x1, .f32⟩
  | .local _ .vmem, ⟨4, _⟩ => ⟨S4x1x6, .f32⟩
  | .local _ .vmem, ⟨5, _⟩ => ⟨S4x1x6, .f32⟩
  | .local _ .vmem, ⟨6, _⟩ => ⟨S4x64x5, .f32⟩
  | .local _ .vmem, ⟨7, _⟩ => ⟨S4x64x5, .f32⟩
  | _, _ => ⟨S16x4096x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_v1 : Ref sig .tc := ⟨.hbm, 24, rfl⟩
abbrev main_cst_1 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_cst : Ref sig .tc := ⟨.hbm, 30, rfl⟩
abbrev main_call1_v3 : Ref sig .tc := ⟨.hbm, 31, rfl⟩
abbrev main_call1_v4 : Ref sig .tc := ⟨.hbm, 32, rfl⟩
abbrev main_call1_cst_0 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_cst_1 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_v15 : Ref sig .tc := ⟨.hbm, 45, rfl⟩
abbrev main_call1_v16 : Ref sig .tc := ⟨.hbm, 46, rfl⟩
abbrev main_v2 : Ref sig .tc := ⟨.hbm, 47, rfl⟩
abbrev main_v3 : Ref sig .tc := ⟨.hbm, 48, rfl⟩
abbrev main_v4_0 : Ref sig .tc := ⟨.hbm, 49, rfl⟩
abbrev main_v4_1 : Ref sig .tc := ⟨.hbm, 50, rfl⟩
abbrev main_v5 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4096x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_m" => some ((80⁻¹ : ℝ) : EReal)
  | _ => none
-- ==== ReferenceIdeal.lean ====
abbrev S16x4096x80 : Shape := ⟨3, ![16, 4096, 80]⟩
abbrev S_ : Shape := ⟨0, ![]⟩
abbrev S16x4096 : Shape := ⟨2, ![16, 4096]⟩
abbrev S16 : Shape := ⟨1, ![16]⟩
abbrev S16x1 : Shape := ⟨2, ![16, 1]⟩
abbrev S16x4095 : Shape := ⟨2, ![16, 4095]⟩
abbrev S16x16 : Shape := ⟨2, ![16, 16]⟩
abbrev S16x4080 : Shape := ⟨2, ![16, 4080]⟩
abbrev S16x2048 : Shape := ⟨2, ![16, 2048]⟩
abbrev S16x4095x80 : Shape := ⟨3, ![16, 4095, 80]⟩
abbrev S4095 : Shape := ⟨1, ![4095]⟩
abbrev S1 : Shape := ⟨1, ![1]⟩
abbrev S4096 : Shape := ⟨1, ![4096]⟩
abbrev S1x4096 : Shape := ⟨2, ![1, 4096]⟩
abbrev S16x4096x1 : Shape := ⟨3, ![16, 4096, 1]⟩
abbrev S16x4096x5 : Shape := ⟨3, ![16, 4096, 5]⟩
abbrev S63 : Shape := ⟨1, ![63]⟩
abbrev S64 : Shape := ⟨1, ![64]⟩
abbrev S16x1x4096 : Shape := ⟨3, ![16, 1, 4096]⟩
abbrev S64x1 : Shape := ⟨2, ![64, 1]⟩
abbrev S1x64x1 : Shape := ⟨3, ![1, 64, 1]⟩
abbrev S16x64x4096 : Shape := ⟨3, ![16, 64, 4096]⟩
abbrev S16x64 : Shape := ⟨2, ![16, 64]⟩
abbrev S16x64x1 : Shape := ⟨3, ![16, 64, 1]⟩
abbrev S1x64 : Shape := ⟨2, ![1, 64]⟩
abbrev S16x64x5 : Shape := ⟨3, ![16, 64, 5]⟩
abbrev S16x1x5 : Shape := ⟨3, ![16, 1, 5]⟩
abbrev S16x5 : Shape := ⟨2, ![16, 5]⟩
abbrev S16x6 : Shape := ⟨2, ![16, 6]⟩

abbrev nBuf : Space → Nat
  | .hbm => 316
  | .vmem => 0
  | .smem => 0
  | _ => 0

abbrev hbmTy0_0 (i : Nat) : BufTy := match i % 128 with
  | 0 => ⟨S16x4096x80, .f32⟩
  | 1 => ⟨S_, .f32⟩
  | 2 => ⟨S16x4096, .f32⟩
  | 3 => ⟨S_, .f32⟩
  | 4 => ⟨S16x4096, .f32⟩
  | 5 => ⟨S16x4096, .f32⟩
  | 6 => ⟨S_, .f32⟩
  | 7 => ⟨S16, .f32⟩
  | 8 => ⟨S16x1, .f32⟩
  | 9 => ⟨S_, .f32⟩
  | 10 => ⟨S16x1, .f32⟩
  | 11 => ⟨S16x1, .f32⟩
  | 12 => ⟨S16x4096, .f32⟩
  | 13 => ⟨S16x4096, .i1⟩
  | 14 => ⟨S16x4096, .f32⟩
  | 15 => ⟨S_, .f32⟩
  | 16 => ⟨S16x4096, .f32⟩
  | 17 => ⟨S16x4096, .f32⟩
  | 18 => ⟨S_, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S_, .f32⟩
  | 26 => ⟨S16, .f32⟩
  | 27 => ⟨S16, .f32⟩
  | 28 => ⟨S16x1, .f32⟩
  | 29 => ⟨S_, .f32⟩
  | 30 => ⟨S16x1, .f32⟩
  | 31 => ⟨S16x4095, .f32⟩
  | 32 => ⟨S16x4096, .f32⟩
  | 33 => ⟨S_, .f32⟩
  | 34 => ⟨S16x4096, .f32⟩
  | 35 => ⟨S16x4096, .f32⟩
  | 36 => ⟨S16x4096, .f32⟩
  | 37 => ⟨S_, .f32⟩
  | 38 => ⟨S16, .f32⟩
  | 39 => ⟨S_, .f32⟩
  | 40 => ⟨S16, .f32⟩
  | 41 => ⟨S_, .f32⟩
  | 42 => ⟨S16, .f32⟩
  | 43 => ⟨S16, .i1⟩
  | 44 => ⟨S_, .f32⟩
  | 45 => ⟨S16, .f32⟩
  | 46 => ⟨S16, .f32⟩
  | 47 => ⟨S16, .f32⟩
  | 48 => ⟨S_, .f32⟩
  | 49 => ⟨S_, .f32⟩
  | 50 => ⟨S16, .f32⟩
  | 51 => ⟨S16, .f32⟩
  | 52 => ⟨S16x1, .f32⟩
  | 53 => ⟨S_, .f32⟩
  | 54 => ⟨S16x1, .f32⟩
  | 55 => ⟨S16x4095, .f32⟩
  | 56 => ⟨S16x4096, .f32⟩
  | 57 => ⟨S_, .f32⟩
  | 58 => ⟨S16x4096, .f32⟩
  | 59 => ⟨S16x4096, .f32⟩
  | 60 => ⟨S16x4096, .f32⟩
  | 61 => ⟨S_, .f32⟩
  | 62 => ⟨S16, .f32⟩
  | 63 => ⟨S_, .f32⟩
  | 64 => ⟨S16, .f32⟩
  | 65 => ⟨S_, .f32⟩
  | 66 => ⟨S16, .f32⟩
  | 67 => ⟨S16, .i1⟩
  | 68 => ⟨S_, .f32⟩
  | 69 => ⟨S16, .f32⟩
  | 70 => ⟨S16, .f32⟩
  | 71 => ⟨S16, .f32⟩
  | 72 => ⟨S_, .f32⟩
  | 73 => ⟨S_, .f32⟩
  | 74 => ⟨S16, .f32⟩
  | 75 => ⟨S16, .f32⟩
  | 76 => ⟨S_, .f32⟩
  | 77 => ⟨S_, .f32⟩
  | 78 => ⟨S16x4096, .f32⟩
  | 79 => ⟨S_, .f32⟩
  | 80 => ⟨S16x16, .f32⟩
  | 81 => ⟨S16x4080, .f32⟩
  | 82 => ⟨S16x4096, .f32⟩
  | 83 => ⟨S16x4096, .f32⟩
  | 84 => ⟨S_, .f32⟩
  | 85 => ⟨S16x4096, .f32⟩
  | 86 => ⟨S16x4096, .f32⟩
  | 87 => ⟨S16x2048, .f32⟩
  | 88 => ⟨S_, .f32⟩
  | 89 => ⟨S16, .f32⟩
  | 90 => ⟨S_, .f32⟩
  | 91 => ⟨S16, .f32⟩
  | 92 => ⟨S16, .f32⟩
  | 93 => ⟨S16x2048, .f32⟩
  | 94 => ⟨S_, .f32⟩
  | 95 => ⟨S16, .f32⟩
  | 96 => ⟨S_, .f32⟩
  | 97 => ⟨S16, .f32⟩
  | 98 => ⟨S16, .f32⟩
  | 99 => ⟨S16, .f32⟩
  | 100 => ⟨S16x4095x80, .f32⟩
  | 101 => ⟨S16x4095x80, .f32⟩
  | 102 => ⟨S16x4095x80, .f32⟩
  | 103 => ⟨S16x4095x80, .f32⟩
  | 104 => ⟨S_, .f32⟩
  | 105 => ⟨S16x4095, .f32⟩
  | 106 => ⟨S_, .f32⟩
  | 107 => ⟨S16x4095, .f32⟩
  | 108 => ⟨S16x4095, .f32⟩
  | 109 => ⟨S_, .f32⟩
  | 110 => ⟨S16x1, .f32⟩
  | 111 => ⟨S16x4096, .f32⟩
  | 112 => ⟨S_, .f32⟩
  | 113 => ⟨S16, .f32⟩
  | 114 => ⟨S16x1, .f32⟩
  | 115 => ⟨S_, .f32⟩
  | 116 => ⟨S16x1, .f32⟩
  | 117 => ⟨S16x1, .f32⟩
  | 118 => ⟨S_, .f32⟩
  | 119 => ⟨S16x1, .f32⟩
  | 120 => ⟨S16x1, .f32⟩
  | 121 => ⟨S16x4096, .f32⟩
  | 122 => ⟨S16x4096, .f32⟩
  | 123 => ⟨S_, .f32⟩
  | 124 => ⟨S16x4096, .f32⟩
  | 125 => ⟨S16x4096, .i1⟩
  | 126 => ⟨S16x4096, .f32⟩
  | 127 => ⟨S_, .f32⟩
  | _ => ⟨S16x4096x80, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S16x1, .f32⟩
  | 5 => ⟨S_, .f32⟩
  | 6 => ⟨S16x1, .f32⟩
  | 7 => ⟨S16x1, .f32⟩
  | 8 => ⟨S16x4096, .f32⟩
  | 9 => ⟨S16x4096, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S4095, .f32⟩
  | 18 => ⟨S_, .f32⟩
  | 19 => ⟨S4095, .f32⟩
  | 20 => ⟨S4095, .f32⟩
  | 21 => ⟨S1, .f32⟩
  | 22 => ⟨S_, .f32⟩
  | 23 => ⟨S4095, .f32⟩
  | 24 => ⟨S4095, .f32⟩
  | 25 => ⟨S4095, .f32⟩
  | 26 => ⟨S4095, .f32⟩
  | 27 => ⟨S1, .f32⟩
  | 28 => ⟨S4095, .f32⟩
  | 29 => ⟨S4095, .f32⟩
  | 30 => ⟨S4095, .f32⟩
  | 31 => ⟨S1, .f32⟩
  | 32 => ⟨S4096, .f32⟩
  | 33 => ⟨S1x4096, .f32⟩
  | 34 => ⟨S16x4096, .f32⟩
  | 35 => ⟨S_, .f32⟩
  | 36 => ⟨S16x1, .f32⟩
  | 37 => ⟨S16x1, .i1⟩
  | 38 => ⟨S16x4096, .i1⟩
  | 39 => ⟨S16x4096, .f32⟩
  | 40 => ⟨S16x4096, .f32⟩
  | 41 => ⟨S16x4096x1, .f32⟩
  | 42 => ⟨S16x4096x1, .f32⟩
  | 43 => ⟨S16x4096x1, .f32⟩
  | 44 => ⟨S16x4096x1, .f32⟩
  | 45 => ⟨S16x4096x1, .f32⟩
  | 46 => ⟨S16x4096x5, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S63, .f32⟩
  | 55 => ⟨S_, .f32⟩
  | 56 => ⟨S63, .f32⟩
  | 57 => ⟨S63, .f32⟩
  | 58 => ⟨S1, .f32⟩
  | 59 => ⟨S_, .f32⟩
  | 60 => ⟨S63, .f32⟩
  | 61 => ⟨S63, .f32⟩
  | 62 => ⟨S63, .f32⟩
  | 63 => ⟨S63, .f32⟩
  | 64 => ⟨S1, .f32⟩
  | 65 => ⟨S63, .f32⟩
  | 66 => ⟨S63, .f32⟩
  | 67 => ⟨S63, .f32⟩
  | 68 => ⟨S1, .f32⟩
  | 69 => ⟨S64, .f32⟩
  | 70 => ⟨S16x1x4096, .f32⟩
  | 71 => ⟨S64x1, .f32⟩
  | 72 => ⟨S1x64x1, .f32⟩
  | 73 => ⟨S16x64x4096, .f32⟩
  | 74 => ⟨S16x64x4096, .f32⟩
  | 75 => ⟨S16x64x4096, .i1⟩
  | 76 => ⟨S16x64x4096, .i32⟩
  | 77 => ⟨S_, .i32⟩
  | 78 => ⟨S16x64, .i32⟩
  | 79 => ⟨S_, .i32⟩
  | 80 => ⟨S16x64, .i32⟩
  | 81 => ⟨S16x64, .i32⟩
  | 82 => ⟨S_, .i32⟩
  | 83 => ⟨S_, .i32⟩
  | 84 => ⟨S_, .i32⟩
  | 85 => ⟨S16x64, .i32⟩
  | 86 => ⟨S16x64, .i32⟩
  | 87 => ⟨S_, .i32⟩
  | 88 => ⟨S16x64, .i32⟩
  | 89 => ⟨S16x64, .i32⟩
  | 90 => ⟨S_, .i32⟩
  | 91 => ⟨S_, .i32⟩
  | 92 => ⟨S_, .i32⟩
  | 93 => ⟨S16x64, .i32⟩
  | 94 => ⟨S16x64, .i32⟩
  | 95 => ⟨S_, .i32⟩
  | 96 => ⟨S16x64, .i32⟩
  | 97 => ⟨S16x64, .i32⟩
  | 98 => ⟨S_, .i32⟩
  | 99 => ⟨S16x64, .i32⟩
  | 100 => ⟨S16x64, .i1⟩
  | 101 => ⟨S_, .i32⟩
  | 102 => ⟨S16x64, .i32⟩
  | 103 => ⟨S16x64, .i32⟩
  | 104 => ⟨S16x64, .i32⟩
  | 105 => ⟨S16x64x1, .i32⟩
  | 106 => ⟨S16x64, .f32⟩
  | 107 => ⟨S_, .i32⟩
  | 108 => ⟨S16x64, .i32⟩
  | 109 => ⟨S16x64, .i1⟩
  | 110 => ⟨S_, .i32⟩
  | 111 => ⟨S16x64, .i32⟩
  | 112 => ⟨S16x64, .i32⟩
  | 113 => ⟨S16x64, .i32⟩
  | 114 => ⟨S16x64x1, .i32⟩
  | 115 => ⟨S16x64, .f32⟩
  | 116 => ⟨S16x64, .f32⟩
  | 117 => ⟨S16x64, .f32⟩
  | 118 => ⟨S_, .f32⟩
  | 119 => ⟨S16x64, .f32⟩
  | 120 => ⟨S16x64, .f32⟩
  | 121 => ⟨S1x64, .f32⟩
  | 122 => ⟨S16x64, .f32⟩
  | 123 => ⟨S16x64, .f32⟩
  | 124 => ⟨S16x64, .f32⟩
  | 125 => ⟨S_, .f32⟩
  | 126 => ⟨S_, .f32⟩
  | 127 => ⟨S_, .f32⟩
  | _ => ⟨S16x4096x80, .f32⟩

abbrev hbmTy0_2 (i : Nat) : BufTy := match i % 128 with
  | 0 => ⟨S16x64, .f32⟩
  | 1 => ⟨S16x64, .f32⟩
  | 2 => ⟨S_, .f32⟩
  | 3 => ⟨S16x64, .f32⟩
  | 4 => ⟨S16x64, .f32⟩
  | 5 => ⟨S_, .i32⟩
  | 6 => ⟨S16x64, .i32⟩
  | 7 => ⟨S16x64, .i1⟩
  | 8 => ⟨S_, .i32⟩
  | 9 => ⟨S16x64, .i32⟩
  | 10 => ⟨S16x64, .i32⟩
  | 11 => ⟨S16x64, .i32⟩
  | 12 => ⟨S16x64x1, .i32⟩
  | 13 => ⟨S16x64x5, .f32⟩
  | 14 => ⟨S_, .f32⟩
  | 15 => ⟨S16x64, .f32⟩
  | 16 => ⟨S16x64, .f32⟩
  | 17 => ⟨S16x64x1, .f32⟩
  | 18 => ⟨S16x64x5, .f32⟩
  | 19 => ⟨S16x64x5, .f32⟩
  | 20 => ⟨S_, .i32⟩
  | 21 => ⟨S16x64, .i32⟩
  | 22 => ⟨S16x64, .i1⟩
  | 23 => ⟨S_, .i32⟩
  | 24 => ⟨S16x64, .i32⟩
  | 25 => ⟨S16x64, .i32⟩
  | 26 => ⟨S16x64, .i32⟩
  | 27 => ⟨S16x64x1, .i32⟩
  | 28 => ⟨S16x64x5, .f32⟩
  | 29 => ⟨S16x64x1, .f32⟩
  | 30 => ⟨S16x64x5, .f32⟩
  | 31 => ⟨S16x64x5, .f32⟩
  | 32 => ⟨S16x64x5, .f32⟩
  | 33 => ⟨S_, .i32⟩
  | 34 => ⟨S16x64, .i32⟩
  | 35 => ⟨S16x64, .i1⟩
  | 36 => ⟨S16x64x1, .i1⟩
  | 37 => ⟨S16x1x5, .f32⟩
  | 38 => ⟨S16x5, .f32⟩
  | 39 => ⟨S16x1x5, .f32⟩
  | 40 => ⟨S16x64x5, .i1⟩
  | 41 => ⟨S16x64x5, .f32⟩
  | 42 => ⟨S16x64x5, .f32⟩
  | 43 => ⟨S_, .i32⟩
  | 44 => ⟨S16x64, .i32⟩
  | 45 => ⟨S16x64, .i1⟩
  | 46 => ⟨S16x64x1, .i1⟩
  | 47 => ⟨S16x1x5, .f32⟩
  | 48 => ⟨S16x5, .f32⟩
  | 49 => ⟨S16x1x5, .f32⟩
  | 50 => ⟨S16x64x5, .i1⟩
  | 51 => ⟨S16x64x5, .f32⟩
  | 52 => ⟨S16x64x5, .f32⟩
  | 53 => ⟨S16x1, .f32⟩
  | 54 => ⟨S16x1, .f32⟩
  | 55 => ⟨S16x1, .f32⟩
  | 56 => ⟨S16x1, .f32⟩
  | 57 => ⟨S16x1, .f32⟩
  | 58 => ⟨S16x1, .f32⟩
  | 59 => ⟨S16x6, .f32⟩
  | _ => ⟨S16x4096x80, .f32⟩

abbrev hbmTy (i : Nat) : BufTy := match i / 128 with
  | 0 => hbmTy0_0 i
  | 1 => hbmTy0_1 i
  | 2 => hbmTy0_2 i
  | _ => ⟨S16x4096x80, .f32⟩

abbrev bufTy : (tb : Table) → Fin (tcTables nBuf tb) → BufTy
  | .hbm, ⟨i, _⟩ => hbmTy i
  | _, _ => ⟨S16x4096x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_cst_5 : Ref sig .tc := ⟨.hbm, 20, rfl⟩
abbrev main_v13 : Ref sig .tc := ⟨.hbm, 21, rfl⟩
abbrev main_v14 : Ref sig .tc := ⟨.hbm, 22, rfl⟩
abbrev main_cst_6 : Ref sig .tc := ⟨.hbm, 23, rfl⟩
abbrev main_v15 : Ref sig .tc := ⟨.hbm, 24, rfl⟩
abbrev main_cst_7 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_8 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_9 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_10 : Ref sig .tc := ⟨.hbm, 37, rfl⟩
abbrev main_v25 : Ref sig .tc := ⟨.hbm, 38, rfl⟩
abbrev main_cst_11 : Ref sig .tc := ⟨.hbm, 39, rfl⟩
abbrev main_v26 : Ref sig .tc := ⟨.hbm, 40, rfl⟩
abbrev main_cst_12 : Ref sig .tc := ⟨.hbm, 41, rfl⟩
abbrev main_v27 : Ref sig .tc := ⟨.hbm, 42, rfl⟩
abbrev main_v28 : Ref sig .tc := ⟨.hbm, 43, rfl⟩
abbrev main_cst_13 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_14 : Ref sig .tc := ⟨.hbm, 48, rfl⟩
abbrev main_call0_v0 : Ref sig .tc := ⟨.hbm, 49, rfl⟩
abbrev main_call0_v1 : Ref sig .tc := ⟨.hbm, 50, rfl⟩
abbrev main_v32 : Ref sig .tc := ⟨.hbm, 51, rfl⟩
abbrev main_v33 : Ref sig .tc := ⟨.hbm, 52, rfl⟩
abbrev main_cst_15 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_16 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_17 : Ref sig .tc := ⟨.hbm, 61, rfl⟩
abbrev main_v40 : Ref sig .tc := ⟨.hbm, 62, rfl⟩
abbrev main_cst_18 : Ref sig .tc := ⟨.hbm, 63, rfl⟩
abbrev main_v41 : Ref sig .tc := ⟨.hbm, 64, rfl⟩
abbrev main_cst_19 : Ref sig .tc := ⟨.hbm, 65, rfl⟩
abbrev main_v42 : Ref sig .tc := ⟨.hbm, 66, rfl⟩
abbrev main_v43 : Ref sig .tc := ⟨.hbm, 67, rfl⟩
abbrev main_cst_20 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_21 : Ref sig .tc := ⟨.hbm, 72, rfl⟩
abbrev main_call1_v0 : Ref sig .tc := ⟨.hbm, 73, rfl⟩
abbrev main_call1_v1 : Ref sig .tc := ⟨.hbm, 74, rfl⟩
abbrev main_v47 : Ref sig .tc := ⟨.hbm, 75, rfl⟩
abbrev main_call2_call0_cst : Ref sig .tc := ⟨.hbm, 76, rfl⟩
abbrev main_call2_call0_v0 : Ref sig .tc := ⟨.hbm, 77, rfl⟩
abbrev main_v48 : Ref sig .tc := ⟨.hbm, 78, rfl⟩
abbrev main_cst_22 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_23 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_24 : Ref sig .tc := ⟨.hbm, 88, rfl⟩
abbrev main_v56 : Ref sig .tc := ⟨.hbm, 89, rfl⟩
abbrev main_cst_25 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_26 : Ref sig .tc := ⟨.hbm, 94, rfl⟩
abbrev main_v60 : Ref sig .tc := ⟨.hbm, 95, rfl⟩
abbrev main_cst_27 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_call3_v0 : Ref sig .tc := ⟨.hbm, 100, rfl⟩
abbrev main_call3_v1 : Ref sig .tc := ⟨.hbm, 101, rfl⟩
abbrev main_v64 : Ref sig .tc := ⟨.hbm, 102, rfl⟩
abbrev main_v65 : Ref sig .tc := ⟨.hbm, 103, rfl⟩
abbrev main_cst_28 : Ref sig .tc := ⟨.hbm, 104, rfl⟩
abbrev main_v66 : Ref sig .tc := ⟨.hbm, 105, rfl⟩
abbrev main_cst_29 : Ref sig .tc := ⟨.hbm, 106, rfl⟩
abbrev main_v67 : Ref sig .tc := ⟨.hbm, 107, rfl⟩
abbrev main_v68 : Ref sig .tc := ⟨.hbm, 108, rfl⟩
abbrev main_cst_30 : Ref sig .tc := ⟨.hbm, 109, rfl⟩
abbrev main_v69 : Ref sig .tc := ⟨.hbm, 110, rfl⟩
abbrev main_v70 : Ref sig .tc := ⟨.hbm, 111, rfl⟩
abbrev main_cst_31 : Ref sig .tc := ⟨.hbm, 112, rfl⟩
abbrev main_v71 : Ref sig .tc := ⟨.hbm, 113, rfl⟩
abbrev main_v72 : Ref sig .tc := ⟨.hbm, 114, rfl⟩
abbrev main_cst_32 : Ref sig .tc := ⟨.hbm, 115, rfl⟩
abbrev main_v73 : Ref sig .tc := ⟨.hbm, 116, rfl⟩
abbrev main_v74 : Ref sig .tc := ⟨.hbm, 117, rfl⟩
abbrev main_cst_33 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_34 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_35 : Ref sig .tc := ⟨.hbm, 127, rfl⟩
abbrev main_v82 : Ref sig .tc := ⟨.hbm, 128, rfl⟩
abbrev main_cst_36 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_37 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_38 : Ref sig .tc := ⟨.hbm, 138, rfl⟩
abbrev main_cst_39 : Ref sig .tc := ⟨.hbm, 139, rfl⟩
abbrev main_call4_v0 : Ref sig .tc := ⟨.hbm, 140, rfl⟩
abbrev main_call4_v1 : Ref sig .tc := ⟨.hbm, 141, rfl⟩
abbrev main_call4_v2 : Ref sig .tc := ⟨.hbm, 142, rfl⟩
abbrev main_call4_cst : Ref sig .tc := ⟨.hbm, 143, rfl⟩
abbrev main_call4_v3 : Ref sig .tc := ⟨.hbm, 144, rfl⟩
abbrev main_call4_v4 : Ref sig .tc := ⟨.hbm, 145, rfl⟩
abbrev main_call4_cst_0 : Ref sig .tc := ⟨.hbm, 146, rfl⟩
abbrev main_call4_v5 : Ref sig .tc := ⟨.hbm, 147, rfl⟩
abbrev main_call4_v6 : Ref sig .tc := ⟨.hbm, 148, rfl⟩
abbrev main_call4_v7 : Ref sig .tc := ⟨.hbm, 149, rfl⟩
abbrev main_call4_cst_1 : Ref sig .tc := ⟨.hbm, 150, rfl⟩
abbrev main_call4_v8 : Ref sig .tc := ⟨.hbm, 151, rfl⟩
abbrev main_call4_v9 : Ref sig .tc := ⟨.hbm, 152, rfl⟩
abbrev main_call4_v10 : Ref sig .tc := ⟨.hbm, 153, rfl⟩
abbrev main_call4_v11 : Ref sig .tc := ⟨.hbm, 154, rfl⟩
abbrev main_call4_v12 : Ref sig .tc := ⟨.hbm, 155, rfl⟩
abbrev main_call4_v13 : Ref sig .tc := ⟨.hbm, 156, rfl⟩
abbrev main_call4_v14 : Ref sig .tc := ⟨.hbm, 157, rfl⟩
abbrev main_call4_v15 : Ref sig .tc := ⟨.hbm, 158, rfl⟩
abbrev main_call4_v16 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_cst_40 : Ref sig .tc := ⟨.hbm, 163, rfl⟩
abbrev main_v93 : Ref sig .tc := ⟨.hbm, 164, rfl⟩
abbrev main_v94 : Ref sig .tc := ⟨.hbm, 165, rfl⟩
abbrev main_call5_v0 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_cst_41 : Ref sig .tc := ⟨.hbm, 175, rfl⟩
abbrev main_cst_42 : Ref sig .tc := ⟨.hbm, 176, rfl⟩
abbrev main_call6_v0 : Ref sig .tc := ⟨.hbm, 177, rfl⟩
abbrev main_call6_v1 : Ref sig .tc := ⟨.hbm, 178, rfl⟩
abbrev main_call6_v2 : Ref sig .tc := ⟨.hbm, 179, rfl⟩
abbrev main_call6_cst : Ref sig .tc := ⟨.hbm, 180, rfl⟩
abbrev main_call6_v3 : Ref sig .tc := ⟨.hbm, 181, rfl⟩
abbrev main_call6_v4 : Ref sig .tc := ⟨.hbm, 182, rfl⟩
abbrev main_call6_cst_0 : Ref sig .tc := ⟨.hbm, 183, rfl⟩
abbrev main_call6_v5 : Ref sig .tc := ⟨.hbm, 184, rfl⟩
abbrev main_call6_v6 : Ref sig .tc := ⟨.hbm, 185, rfl⟩
abbrev main_call6_v7 : Ref sig .tc := ⟨.hbm, 186, rfl⟩
abbrev main_call6_cst_1 : Ref sig .tc := ⟨.hbm, 187, rfl⟩
abbrev main_call6_v8 : Ref sig .tc := ⟨.hbm, 188, rfl⟩
abbrev main_call6_v9 : Ref sig .tc := ⟨.hbm, 189, rfl⟩
abbrev main_call6_v10 : Ref sig .tc := ⟨.hbm, 190, rfl⟩
abbrev main_call6_v11 : Ref sig .tc := ⟨.hbm, 191, rfl⟩
abbrev main_call6_v12 : Ref sig .tc := ⟨.hbm, 192, rfl⟩
abbrev main_call6_v13 : Ref sig .tc := ⟨.hbm, 193, rfl⟩
abbrev main_call6_v14 : Ref sig .tc := ⟨.hbm, 194, rfl⟩
abbrev main_call6_v15 : Ref sig .tc := ⟨.hbm, 195, rfl⟩
abbrev main_call6_v16 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_c : Ref sig .tc := ⟨.hbm, 205, rfl⟩
abbrev main_v111 : Ref sig .tc := ⟨.hbm, 206, rfl⟩
abbrev main_c_43 : Ref sig .tc := ⟨.hbm, 207, rfl⟩
abbrev main_v112 : Ref sig .tc := ⟨.hbm, 208, rfl⟩
abbrev main_v113 : Ref sig .tc := ⟨.hbm, 209, rfl⟩
abbrev main_c_44 : Ref sig .tc := ⟨.hbm, 210, rfl⟩
abbrev main_c_45 : Ref sig .tc := ⟨.hbm, 211, rfl⟩
abbrev main_call7_v0 : Ref sig .tc := ⟨.hbm, 212, rfl⟩
abbrev main_call7_v1 : Ref sig .tc := ⟨.hbm, 213, rfl⟩
abbrev main_call7_v2 : Ref sig .tc := ⟨.hbm, 214, rfl⟩
abbrev main_call7_v3 : Ref sig .tc := ⟨.hbm, 215, rfl⟩
abbrev main_call7_v4 : Ref sig .tc := ⟨.hbm, 216, rfl⟩
abbrev main_v114 : Ref sig .tc := ⟨.hbm, 217, rfl⟩
abbrev main_c_46 : Ref sig .tc := ⟨.hbm, 218, rfl⟩
abbrev main_c_47 : Ref sig .tc := ⟨.hbm, 219, rfl⟩
abbrev main_call8_v0 : Ref sig .tc := ⟨.hbm, 220, rfl⟩
abbrev main_call8_v1 : Ref sig .tc := ⟨.hbm, 221, rfl⟩
abbrev main_call8_v2 : Ref sig .tc := ⟨.hbm, 222, rfl⟩
abbrev main_call8_v3 : Ref sig .tc := ⟨.hbm, 223, rfl⟩
abbrev main_call8_v4 : Ref sig .tc := ⟨.hbm, 224, rfl⟩
abbrev main_v115 : Ref sig .tc := ⟨.hbm, 225, rfl⟩
abbrev main_c_48 : Ref sig .tc := ⟨.hbm, 226, rfl⟩
abbrev main_v116 : Ref sig .tc := ⟨.hbm, 227, rfl⟩
abbrev main_v117 : Ref sig .tc := ⟨.hbm, 228, rfl⟩
abbrev main_c_49 : Ref sig .tc := ⟨.hbm, 229, rfl⟩
abbrev main_v118 : Ref sig .tc := ⟨.hbm, 230, rfl⟩
abbrev main_v119 : Ref sig .tc := ⟨.hbm, 231, rfl⟩
abbrev main_v120 : Ref sig .tc := ⟨.hbm, 232, rfl⟩
abbrev main_v121 : Ref sig .tc := ⟨.hbm, 233, rfl⟩
abbrev main_v122 : Ref sig .tc := ⟨.hbm, 234, rfl⟩
abbrev main_c_50 : Ref sig .tc := ⟨.hbm, 235, rfl⟩
abbrev main_v123 : Ref sig .tc := ⟨.hbm, 236, rfl⟩
abbrev main_v124 : Ref sig .tc := ⟨.hbm, 237, rfl⟩
abbrev main_c_51 : Ref sig .tc := ⟨.hbm, 238, rfl⟩
abbrev main_v125 : Ref sig .tc := ⟨.hbm, 239, rfl⟩
abbrev main_v126 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_cst_52 : Ref sig .tc := ⟨.hbm, 246, rfl⟩
abbrev main_v132 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_v136 : Ref sig .tc := ⟨.hbm, 251, rfl⟩
abbrev main_v137 : Ref sig .tc := ⟨.hbm, 252, rfl⟩
abbrev main_cst_53 : Ref sig .tc := ⟨.hbm, 253, rfl⟩
abbrev main_cst_54 : Ref sig .tc := ⟨.hbm, 254, rfl⟩
abbrev main_call9_v0 : Ref sig .tc := ⟨.hbm, 255, rfl⟩
abbrev main_call9_v1 : Ref sig .tc := ⟨.hbm, 256, rfl⟩
abbrev main_call9_v2 : Ref sig .tc := ⟨.hbm, 257, rfl⟩
abbrev main_call9_v3 : Ref sig .tc := ⟨.hbm, 258, rfl⟩
abbrev main_call9_v4 : Ref sig .tc := ⟨.hbm, 259, rfl⟩
abbrev main_v138 : Ref sig .tc := ⟨.hbm, 260, rfl⟩
abbrev main_c_55 : Ref sig .tc := ⟨.hbm, 261, rfl⟩
abbrev main_v139 : Ref sig .tc := ⟨.hbm, 262, rfl⟩
abbrev main_v140 : Ref sig .tc := ⟨.hbm, 263, rfl⟩
abbrev main_c_56 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_v145 : Ref sig .tc := ⟨.hbm, 269, rfl⟩
abbrev main_cst_57 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_v149 : Ref sig .tc := ⟨.hbm, 274, rfl⟩
abbrev main_v150 : Ref sig .tc := ⟨.hbm, 275, rfl⟩
abbrev main_c_58 : Ref sig .tc := ⟨.hbm, 276, rfl⟩
abbrev main_v151 : Ref sig .tc := ⟨.hbm, 277, rfl⟩
abbrev main_v152 : Ref sig .tc := ⟨.hbm, 278, rfl⟩
abbrev main_c_59 : Ref sig .tc := ⟨.hbm, 279, rfl⟩
abbrev main_v153 : Ref sig .tc := ⟨.hbm, 280, rfl⟩
abbrev main_v154 : Ref sig .tc := ⟨.hbm, 281, rfl⟩
abbrev main_v155 : Ref sig .tc := ⟨.hbm, 282, rfl⟩
abbrev main_v156 : Ref sig .tc := ⟨.hbm, 283, rfl⟩
abbrev main_v157 : Ref sig .tc := ⟨.hbm, 284, rfl⟩
abbrev main_v158 : Ref sig .tc := ⟨.hbm, 285, rfl⟩
abbrev main_v159 : Ref sig .tc := ⟨.hbm, 286, rfl⟩
abbrev main_v160 : Ref sig .tc := ⟨.hbm, 287, rfl⟩
abbrev main_v161 : Ref sig .tc := ⟨.hbm, 288, rfl⟩
abbrev main_c_60 : Ref sig .tc := ⟨.hbm, 289, rfl⟩
abbrev main_v162 : Ref sig .tc := ⟨.hbm, 290, rfl⟩
abbrev main_v163 : Ref sig .tc := ⟨.hbm, 291, rfl⟩
abbrev main_v164 : Ref sig .tc := ⟨.hbm, 292, rfl⟩
abbrev main_v165 : Ref sig .tc := ⟨.hbm, 293, rfl⟩
abbrev main_v166 : Ref sig .tc := ⟨.hbm, 294, rfl⟩
abbrev main_v167 : Ref sig .tc := ⟨.hbm, 295, rfl⟩
abbrev main_call10_v0 : Ref sig .tc := ⟨.hbm, 296, rfl⟩
abbrev main_call10_v1 : Ref sig .tc := ⟨.hbm, 297, rfl⟩
abbrev main_v168 : Ref sig .tc := ⟨.hbm, 298, rfl⟩
abbrev main_c_61 : Ref sig .tc := ⟨.hbm, 299, rfl⟩
abbrev main_v169 : Ref sig .tc := ⟨.hbm, 300, rfl⟩
abbrev main_v170 : Ref sig .tc := ⟨.hbm, 301, rfl⟩
abbrev main_v171 : Ref sig .tc := ⟨.hbm, 302, rfl⟩
abbrev main_v172 : Ref sig .tc := ⟨.hbm, 303, rfl⟩
abbrev main_v173 : Ref sig .tc := ⟨.hbm, 304, rfl⟩
abbrev main_v174 : Ref sig .tc := ⟨.hbm, 305, rfl⟩
abbrev main_call11_v0 : Ref sig .tc := ⟨.hbm, 306, rfl⟩
abbrev main_call11_v1 : Ref sig .tc := ⟨.hbm, 307, rfl⟩
abbrev main_v175 : Ref sig .tc := ⟨.hbm, 308, rfl⟩
abbrev main_v176 : Ref sig .tc := ⟨.hbm, 309, rfl⟩
abbrev main_v177 : Ref sig .tc := ⟨.hbm, 310, rfl⟩
abbrev main_v178 : Ref sig .tc := ⟨.hbm, 311, rfl⟩
abbrev main_v179 : Ref sig .tc := ⟨.hbm, 312, rfl⟩
abbrev main_v180 : Ref sig .tc := ⟨.hbm, 313, rfl⟩
abbrev main_v181 : Ref sig .tc := ⟨.hbm, 314, rfl⟩
abbrev main_v182 : Ref sig .tc := ⟨.hbm, 315, rfl⟩

abbrev nD : Nat := 1
abbrev τ : Topo := Topo.v7x

variable {F : FTy → Type} [FloatOps F]
-- ==== Proof.Spec.lean ====
/- What one row of the batch has to come to, as plain mathematics over the extended reals.  A row is a function
   `x : Fin 4096 → Fin 80 → EReal` (frame, mel bin).  Both programs are read against these definitions: the kernel in
   `KernelRow.lean`, the reference in `RefRow.lean`. -/
module

public import Idealize.ShloMosaic.Lib.Pointwise

@[expose] public section

set_option maxRecDepth 16384

noncomputable section

namespace Cert.Row

open Idealize.ShloMosaic

/-- The small constant both programs add to a denominator (the pattern of `1e-6`). -/
def eps : EReal := Ideal.ofBits .f32 0x358637BD#32

/-- The threshold of a boundary (the pattern of `1.5`). -/
def thr : EReal := Ideal.ofBits .f32 0x3FC00000#32

section
variable (x : Fin 4096 → Fin 80 → EReal)

/-- Mean over the mel bins of one frame. -/
def energy (t : Fin 4096) : EReal := Ideal.div (∑ k, x t k) ((80 : ℝ) : EReal)

/-- Mean energy of the row. -/
def meanEnergy : EReal := Ideal.div (∑ t, energy x t) ((4096 : ℝ) : EReal)

/-- The speech mask: one where the frame's energy exceeds the mean, else zero. -/
def speech (t : Fin 4096) : EReal := if meanEnergy x < energy x t then 1 else 0

/-- The pause mask. -/
def pause (t : Fin 4096) : EReal := 1 - speech x t

end

/-- A sequence moved right by one frame, zero entering. -/
def prev (f : Fin 4096 → EReal) (t : Fin 4096) : EReal := if h : t.val < 1 then 0 else f ⟨t.val - 1, by omega⟩

/-- Number of runs of ones in a mask. -/
def runs (f : Fin 4096 → EReal) : EReal := ∑ t, f t * (1 - prev f t)

/-- Mean length of the runs of ones in a mask, zero if there is none. -/
def runMean (f : Fin 4096 → EReal) : EReal := if 0 < runs f then Ideal.div (∑ t, f t) (max (runs f) 1) else 0

/-- Mean over the row's frames. -/
def meanT (f : Fin 4096 → EReal) : EReal := Ideal.div (∑ t, f t) ((4096 : ℝ) : EReal)

/-- Prefix sum, the frame itself included. -/
def csum (f : Fin 4096 → EReal) (t : Fin 4096) : EReal := ∑ i : Fin 4096, if i.val ≤ t.val then f i else 0

section
variable (x : Fin 4096 → Fin 80 → EReal)

/-- Speech rate over the trailing sixteen frames. -/
def rate (t : Fin 4096) : EReal :=
  Ideal.div (csum (speech x) t - if h : t.val < 16 then 0 else csum (speech x) ⟨t.val - 16, by omega⟩) ((16 : ℝ) : EReal)

/-- Mean rate of the second half less mean rate of the first half. -/
def trend : EReal :=
  Ideal.div (∑ k : Fin 2048, rate x ⟨2048 + k.val, by omega⟩) ((2048 : ℝ) : EReal)
    - Ideal.div (∑ k : Fin 2048, rate x ⟨k.val, by omega⟩) ((2048 : ℝ) : EReal)

/-- Spectral flux: mean absolute change from the frame before, zero at the first frame. -/
def flux (t : Fin 4096) : EReal :=
  if h : t.val < 1 then 0
  else Ideal.div (∑ k, max (x t k - x ⟨t.val - 1, by omega⟩ k) (-(x t k - x ⟨t.val - 1, by omega⟩ k))) ((80 : ℝ) : EReal)

/-- Flux over its mean. -/
def strength (t : Fin 4096) : EReal := Ideal.div (flux x t) (meanT (flux x) + eps)

/-- Share of the frames whose boundary strength exceeds the threshold. -/
def boundaryRatio : EReal := meanT fun t => if thr < strength x t then 1 else 0

/-- The six statistics of a row, in order. -/
def stats (c : Fin 6) : EReal :=
  if c.val = 0 then meanT (pause x)
  else if c.val = 1 then runMean (pause x)
  else if c.val = 2 then runMean (speech x)
  else if c.val = 3 then trend x
  else if c.val = 4 then boundaryRatio x
  else meanT (speech x)

variable (u : Fin 4096 → EReal)

/-- Progress through the row: the share of the speech seen so far, or the uniform ramp `u` if there is no speech. -/
def progress (t : Fin 4096) : EReal :=
  if 0 < ∑ i, speech x i then Ideal.div (csum (speech x) t) (max (∑ i, speech x i) 1) else u t

/-- Progress less the uniform ramp. -/
def bias (t : Fin 4096) : EReal := progress x u t - u t

/-- The five tracks of a row, in order. -/
def track (t : Fin 4096) (c : Fin 5) : EReal :=
  if c.val = 0 then pause x t
  else if c.val = 1 then rate x t
  else if c.val = 2 then strength x t
  else if c.val = 3 then bias x u t
  else speech x t

/-- Number of frames whose progress lies below `q` (the insertion point of `q`). -/
def count (q : EReal) : ℕ := (Finset.univ.filter fun t : Fin 4096 => progress x u t < q).card

/-- The frame numbered `n`, or the last one. -/
def frame (n : ℕ) : Fin 4096 := ⟨min n 4095, by omega⟩

/-- The weight of the right-hand frame in the interpolation at `q`. -/
def alpha (q : EReal) : EReal :=
  min 1 (max 0 (Ideal.div (q - progress x u (frame (count x u q - 1)))
    (max (max (progress x u (frame (count x u q)) - progress x u (frame (count x u q - 1)))
      (-(progress x u (frame (count x u q)) - progress x u (frame (count x u q - 1))))) eps)))

/-- The five tracks resampled at `q`: the first frame before the row's progress starts, the last after it ends, and
    between two frames the linear interpolation. -/
def trace (q : EReal) (c : Fin 5) : EReal :=
  if 4096 ≤ count x u q then track x u 4095 c
  else if count x u q = 0 then track x u 0 c
  else track x u (frame (count x u q - 1)) c * (1 - alpha x u q) + track x u (frame (count x u q)) c * alpha x u q

end

end Cert.Row

end
-- ==== Proof.Laws.lean ====
/- Facts about the row mathematics of `Spec.lean` that the two readings share: constants, realness, prefix sums by
   doubling, one-hot selection, counts as words and as reals, and the flux of a row with infinite entries. -/
module

public import proofs.«01_k».proof.Proof.Spec
public import Idealize.ShloMosaic.Lib.IndicatorCount

@[expose] public section

set_option maxRecDepth 16384

noncomputable section

namespace Cert.Row

open Idealize.ShloMosaic

/-! ## Constants -/

/-- The pattern of `80`. -/
theorem c80 : Ideal.ofBits .f32 0x42A00000#32 = ((80 : ℝ) : EReal) := by
  simp [Ideal.ofBits, Ideal.ieee]; rw [← EReal.coe_mul]; norm_num
/-- The pattern of `4096`. -/
theorem c4096 : Ideal.ofBits .f32 0x45800000#32 = ((4096 : ℝ) : EReal) := by
  simp [Ideal.ofBits, Ideal.ieee]; rw [← EReal.coe_mul]; norm_num
/-- The pattern of `4095`. -/
theorem c4095 : Ideal.ofBits .f32 0x457FF000#32 = ((4095 : ℝ) : EReal) := by
  simp [Ideal.ofBits, Ideal.ieee]; rw [← EReal.coe_mul]; norm_num
/-- The pattern of `2048`. -/
theorem c2048 : Ideal.ofBits .f32 0x45000000#32 = ((2048 : ℝ) : EReal) := by
  simp [Ideal.ofBits, Ideal.ieee]; rw [← EReal.coe_mul]; norm_num
/-- The pattern of `16`. -/
theorem c16 : Ideal.ofBits .f32 0x41800000#32 = ((16 : ℝ) : EReal) := by
  simp [Ideal.ofBits, Ideal.ieee]; rw [← EReal.coe_mul]; norm_num
/-- The pattern of `1/4096`. -/
theorem ci4096 : Ideal.ofBits .f32 0x39800000#32 = ((1 / 4096 : ℝ) : EReal) := by
  simp [Ideal.ofBits, Ideal.ieee]; rw [← EReal.coe_mul]; norm_num
/-- The pattern of `1/2048`. -/
theorem ci2048 : Ideal.ofBits .f32 0x3A000000#32 = ((1 / 2048 : ℝ) : EReal) := by
  simp [Ideal.ofBits, Ideal.ieee]; rw [← EReal.coe_mul]; norm_num
/-- The pattern of `1/16`. -/
theorem ci16 : Ideal.ofBits .f32 0x3D800000#32 = ((1 / 16 : ℝ) : EReal) := by
  simp [Ideal.ofBits, Ideal.ieee]; rw [← EReal.coe_mul]; norm_num
/-- The small constant is a positive real. -/
theorem eps_real : ∃ e : ℝ, 0 < e ∧ eps = (e : EReal) := by
  refine ⟨_, ?_, by unfold eps; simp [Ideal.ofBits, Ideal.ieee]; rfl⟩
  norm_num

/-- Division by `80` is the product with its reciprocal. -/
theorem div80 (a : EReal) : a * ((80⁻¹ : ℝ) : EReal) = Ideal.div a ((80 : ℝ) : EReal) := by
  rw [Ideal.div_coe (by norm_num), one_div]
/-- Division by `4096` is the product with its reciprocal. -/
theorem div4096 (a : EReal) : a * ((1 / 4096 : ℝ) : EReal) = Ideal.div a ((4096 : ℝ) : EReal) :=
  (Ideal.div_coe (by norm_num) a).symm
/-- Division by `16` is the product with its reciprocal. -/
theorem div16 (a : EReal) : a * ((1 / 16 : ℝ) : EReal) = Ideal.div a ((16 : ℝ) : EReal) :=
  (Ideal.div_coe (by norm_num) a).symm

/-! ## Real values among the extended reals -/

/-- The value is a real number. -/
def IsR (a : EReal) : Prop := ∃ r : ℝ, a = (r : EReal)

theorem IsR.coe (r : ℝ) : IsR (r : EReal) := ⟨r, rfl⟩
theorem IsR.zero : IsR 0 := ⟨0, rfl⟩
theorem IsR.one : IsR 1 := ⟨1, rfl⟩
theorem IsR.add {a b : EReal} (ha : IsR a) (hb : IsR b) : IsR (a + b) := by
  obtain ⟨r, rfl⟩ := ha; obtain ⟨s, rfl⟩ := hb; exact ⟨r + s, (EReal.coe_add r s).symm⟩
theorem IsR.sub {a b : EReal} (ha : IsR a) (hb : IsR b) : IsR (a - b) := by
  obtain ⟨r, rfl⟩ := ha; obtain ⟨s, rfl⟩ := hb; exact ⟨r - s, (EReal.coe_sub r s).symm⟩
theorem IsR.mul {a b : EReal} (ha : IsR a) (hb : IsR b) : IsR (a * b) := by
  obtain ⟨r, rfl⟩ := ha; obtain ⟨s, rfl⟩ := hb; exact ⟨r * s, (EReal.coe_mul r s).symm⟩
theorem IsR.max {a b : EReal} (ha : IsR a) (hb : IsR b) : IsR (max a b) := by
  rcases max_choice a b with h | h <;> rw [h] <;> assumption
theorem IsR.div {a b : EReal} (ha : IsR a) (hb : IsR b) (h : b ≠ 0) : IsR (Ideal.div a b) := by
  obtain ⟨s, rfl⟩ := hb
  rw [Ideal.div_coe (by intro e; exact h (by rw [e]; rfl))]
  exact ha.mul (IsR.coe _)
theorem IsR.sum {ι : Type} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))

/-- A real less itself is zero. -/
theorem IsR.sub_self {a : EReal} (ha : IsR a) : a - a = 0 := by
  obtain ⟨r, rfl⟩ := ha
  rw [← EReal.coe_sub, _root_.sub_self]; rfl

/-- A difference of reals times a real distributes. -/
theorem IsR.sub_mul {a b : EReal} (ha : IsR a) (hb : IsR b) (r : ℝ) :
    (a - b) * (r : EReal) = a * (r : EReal) - b * (r : EReal) := by
  obtain ⟨p, rfl⟩ := ha; obtain ⟨q, rfl⟩ := hb
  rw [← EReal.coe_sub, ← EReal.coe_mul, ← EReal.coe_mul, ← EReal.coe_mul, ← EReal.coe_sub, _root_.sub_mul]

section
variable (x : Fin 4096 → Fin 80 → EReal) (u : Fin 4096 → EReal)

/-- The speech mask is real. -/
theorem speech_real (t : Fin 4096) : IsR (speech x t) := by
  unfold speech; split
  · exact IsR.one
  · exact IsR.zero

/-- A prefix sum of reals is real. -/
theorem csum_real (f : Fin 4096 → EReal) (hf : ∀ t, IsR (f t)) (t : Fin 4096) : IsR (csum f t) := by
  unfold csum
  refine IsR.sum _ _ fun i _ => ?_
  split
  · exact hf i
  · exact IsR.zero

/-- The speech rate is real. -/
theorem rate_real (t : Fin 4096) : IsR (rate x t) := by
  unfold rate
  refine IsR.div (IsR.sub (csum_real _ (speech_real x) t) ?_) (IsR.coe _) (by norm_num)
  split
  · exact IsR.zero
  · exact csum_real _ (speech_real x) _

/-- Progress is real when the uniform ramp is. -/
theorem progress_real (hu : ∀ t, IsR (u t)) (t : Fin 4096) : IsR (progress x u t) := by
  unfold progress; split
  · refine IsR.div (csum_real _ (speech_real x) t) (IsR.max (IsR.sum _ _ fun i _ => speech_real x i) IsR.one) ?_
    exact ne_of_gt (lt_of_lt_of_le zero_lt_one (le_max_right _ _))
  · exact hu t

/-- The two halves' difference may be divided at once, as the kernel does. -/
theorem trend_eq : trend x = ((∑ k : Fin 2048, rate x ⟨2048 + k.val, by omega⟩)
    - ∑ k : Fin 2048, rate x ⟨k.val, by omega⟩) * ((1 / 2048 : ℝ) : EReal) := by
  rw [IsR.sub_mul (IsR.sum _ _ fun k _ => rate_real x _) (IsR.sum _ _ fun k _ => rate_real x _)]
  unfold trend
  rw [Ideal.div_coe (by norm_num), Ideal.div_coe (by norm_num)]

end

/-! ## Prefix sums by doubling -/

/-- The sum of the `w` entries ending at `t`. -/
def wsum (f : Fin 4096 → EReal) (w : ℕ) (t : Fin 4096) : EReal :=
  ∑ i : Fin 4096, if i.val ≤ t.val ∧ t.val < i.val + w then f i else 0

/-- The window of one entry is the entry. -/
theorem wsum_one (f : Fin 4096 → EReal) (t : Fin 4096) : f t = wsum f 1 t := by
  unfold wsum
  rw [Finset.sum_eq_single t]
  · rw [if_pos ⟨le_rfl, by omega⟩]
  · intro i _ hi
    rw [if_neg fun h => hi (Fin.ext (by omega))]
  · intro h; exact absurd (Finset.mem_univ t) h

/-- Adding the window moved right by its own width doubles it. -/
theorem wsum_double (f g : Fin 4096 → EReal) (w : ℕ) (hg : ∀ t, g t = wsum f w t) (t : Fin 4096) :
    (g t + if h : t.val < w then 0 else g ⟨t.val - w, by omega⟩) = wsum f (w + w) t := by
  rw [hg]
  by_cases h : t.val < w
  · rw [dif_pos h, add_zero]
    unfold wsum
    refine Finset.sum_congr rfl fun i _ => ?_
    by_cases hi : i.val ≤ t.val
    · rw [if_pos ⟨hi, by omega⟩, if_pos ⟨hi, by omega⟩]
    · rw [if_neg fun e => hi e.1, if_neg fun e => hi e.1]
  · rw [dif_neg h, hg]
    unfold wsum
    rw [← Finset.sum_add_distrib]
    refine Finset.sum_congr rfl fun i _ => ?_
    show ((if i.val ≤ t.val ∧ t.val < i.val + w then f i else 0)
      + if i.val ≤ t.val - w ∧ t.val - w < i.val + w then f i else 0) = _
    by_cases h1 : i.val ≤ t.val ∧ t.val < i.val + w
    · rw [if_pos h1, if_neg (by omega), if_pos (by omega), add_zero]
    · by_cases h2 : i.val ≤ t.val - w ∧ t.val - w < i.val + w
      · rw [if_neg h1, if_pos h2, if_pos (by omega), zero_add]
      · rw [if_neg h1, if_neg h2, if_neg (by omega), add_zero]

/-- A window of the whole length is the prefix sum. -/
theorem wsum_all (f : Fin 4096 → EReal) (t : Fin 4096) : wsum f 4096 t = csum f t := by
  unfold wsum csum
  refine Finset.sum_congr rfl fun i _ => ?_
  by_cases hi : i.val ≤ t.val
  · rw [if_pos ⟨hi, by omega⟩, if_pos hi]
  · rw [if_neg fun e => hi e.1, if_neg hi]

/-- The prefix sum at the last frame is the whole sum. -/
theorem csum_last (f : Fin 4096 → EReal) : csum f 4095 = ∑ i, f i := by
  unfold csum
  refine Finset.sum_congr rfl fun i _ => if_pos ?_
  have : ((4095 : Fin 4096) : ℕ) = 4095 := rfl
  omega

/-- The prefix sum written as a sum over the 4096 positions of a window that ends at `t`. -/
theorem csum_window (f : Fin 4096 → EReal) (t : Fin 4096) :
    (∑ n : Fin 4096, if h : 4095 ≤ t.val + n.val then f ⟨t.val + n.val - 4095, by omega⟩ else 0) = csum f t := by
  unfold csum
  rw [← Finset.sum_filter, ← Finset.sum_subset (Finset.filter_subset (fun n : Fin 4096 => 4095 ≤ t.val + n.val) Finset.univ)]
  · refine Finset.sum_bij' (fun n _ => ⟨t.val + n.val - 4095, by omega⟩) (fun i _ => ⟨(i.val + 4095 - t.val) % 4096, by omega⟩) ?_ ?_ ?_ ?_ ?_
    · intro n hn
      have := (Finset.mem_filter.1 hn).2
      exact Finset.mem_filter.2 ⟨Finset.mem_univ _, by show t.val + n.val - 4095 ≤ t.val; omega⟩
    · intro i hi
      have := (Finset.mem_filter.1 hi).2
      exact Finset.mem_filter.2 ⟨Finset.mem_univ _, by show 4095 ≤ t.val + (i.val + 4095 - t.val) % 4096; omega⟩
    · intro n hn
      have := (Finset.mem_filter.1 hn).2
      refine Fin.ext ?_
      show (t.val + n.val - 4095 + 4095 - t.val) % 4096 = n.val
      omega
    · intro i hi
      have := (Finset.mem_filter.1 hi).2
      refine Fin.ext ?_
      show t.val + (i.val + 4095 - t.val) % 4096 - 4095 = i.val
      omega
    · intro n hn
      have := (Finset.mem_filter.1 hn).2
      rw [dif_pos this]
  · intro n _ hn
    rw [dif_neg fun h => hn (Finset.mem_filter.2 ⟨Finset.mem_univ _, h⟩)]

/-- The number of runs with the first frame split off, as the kernel sums it. -/
theorem runs_cut (f : Fin 4096 → EReal) :
    (∑ _k : Fin 1, f 0) + (∑ k : Fin 4095, f ⟨1 + k.val, by omega⟩ * (1 - f ⟨k.val, by omega⟩)) = runs f := by
  unfold runs
  rw [show (∑ t : Fin 4096, f t * (1 - prev f t)) = f 0 * (1 - prev f 0) + ∑ k : Fin 4095, f k.succ * (1 - prev f k.succ) from
    Fin.sum_univ_succ (n := 4095) _]
  refine congrArg₂ (· + ·) ?_ (Finset.sum_congr rfl fun k _ => ?_)
  · rw [show prev f 0 = 0 from dif_pos (by decide), sub_zero, mul_one]
    simp
  · have e : k.succ = (⟨1 + k.val, by omega⟩ : Fin 4096) := Fin.ext (by rw [Fin.val_succ]; show k.val + 1 = 1 + k.val; omega)
    rw [e]
    unfold prev
    rw [dif_neg (by show ¬ 1 + k.val < 1; omega)]
    have e' : (⟨1 + k.val - 1, by omega⟩ : Fin 4096) = ⟨k.val, by omega⟩ := Fin.ext (by show 1 + k.val - 1 = k.val; omega)
    show f ⟨1 + k.val, _⟩ * (1 - f ⟨k.val, _⟩) = f ⟨1 + k.val, _⟩ * (1 - f ⟨1 + k.val - 1, _⟩)
    rw [e']

/-! ## Bits, counts and words -/

/-- A truth value widened to 32 bits and read as a signed number. -/
theorem sitofp_bit (p : Prop) [Decidable p] :
    (FloatOps.sitofp .f32 (BitVec.setWidth 32 (BitVec.ofBool (decide p))) : Ideal .f32) = (if p then 1 else 0 : EReal) := by
  by_cases h : p
  · rw [if_pos h, decide_eq_true h]
    show (((1#32 : BitVec 32).toInt : ℝ) : EReal) = 1
    norm_num
  · rw [if_neg h, decide_eq_false h]
    show (((0#32 : BitVec 32).toInt : ℝ) : EReal) = 0
    norm_num

/-- A truth value read as an unsigned number. -/
theorem uitofp_bit (p : Prop) [Decidable p] :
    (FloatOps.uitofp .f32 (BitVec.ofBool (decide p)) : Ideal .f32) = (if p then 1 else 0 : EReal) := by
  by_cases h : p
  · rw [if_pos h, decide_eq_true h]
    show (((1#1 : BitVec 1).toNat : ℝ) : EReal) = 1
    norm_num
  · rw [if_neg h, decide_eq_false h]
    show (((0#1 : BitVec 1).toNat : ℝ) : EReal) = 0
    norm_num

/-- A sum of truth values is the number of the true ones. -/
theorem sum_ind {ι : Type} (s : Finset ι) (p : ι → Prop) [DecidablePred p] :
    (∑ i ∈ s, if p i then (1 : EReal) else 0) = (((s.filter p).card : ℝ) : EReal) := by
  classical
  induction s using Finset.induction_on with
  | empty => simp
  | insert a s ha ih =>
    rw [Finset.sum_insert ha, ih, Finset.filter_insert]
    by_cases h : p a
    · rw [if_pos h, if_pos h, Finset.card_insert_of_notMem (fun hm => ha (Finset.mem_filter.1 hm).1)]
      push_cast
      rw [add_comm]
    · rw [if_neg h, if_neg h, zero_add]

/-- Among 4096 frames at most 4096 are counted. -/
theorem count_le (x : Fin 4096 → Fin 80 → EReal) (u : Fin 4096 → EReal) (q : EReal) : count x u q ≤ 4096 := by
  unfold count
  exact (Finset.card_le_univ _).trans (le_of_eq (Fintype.card_fin 4096))

/-- The index of the frame left of an insertion point, as the kernel rounds it. -/
theorem fptosi_left (n : ℕ) (h1 : 1 ≤ n) (h2 : n ≤ 4095) :
    Ideal.fptosi 32 (min ((4095 : ℝ) : EReal) (max 0 (((n : ℝ) : EReal) - 1))) = BitVec.ofNat 32 (n - 1) := by
  have e : min ((4095 : ℝ) : EReal) (max 0 (((n : ℝ) : EReal) - 1)) = (((n - 1 : ℕ) : ℝ) : EReal) := by
    have e1 : ((n : ℝ) : EReal) - 1 = (((n - 1 : ℕ) : ℝ) : EReal) := by
      rw [Nat.cast_sub h1, ← EReal.coe_one, ← EReal.coe_sub]; simp
    rw [e1, max_eq_right (by exact_mod_cast Nat.zero_le _), min_eq_right]
    have : ((n - 1 : ℕ) : ℝ) ≤ 4095 := by exact_mod_cast (by omega : n - 1 ≤ 4095)
    exact_mod_cast this
  rw [e, Ideal.fptosi, Ideal.toIntClamped_coe, if_pos (by positivity), Int.floor_natCast]
  rw [show max (-((2 ^ (32 - 1) : ℕ) : Int)) (min (((2 ^ (32 - 1) : ℕ) : Int) - 1) ((n - 1 : ℕ) : Int)) = ((n - 1 : ℕ) : Int) by
    norm_num; omega]
  exact BitVec.ofInt_natCast _ _

/-- The one-hot product of the kernel: of 4095 entries and one more, the sum against the indicator of the word `L` is
    entry `L`. -/
theorem onehot (A : Fin 4095 → EReal) (B : EReal) (L : ℕ) (hL : L < 4095) :
    (∑ k : Fin 4095, A k * (FloatOps.sitofp .f32 (BitVec.setWidth 32 (IntOp.cmpi .eq (BitVec.ofNat 32 k.val) (BitVec.ofNat 32 L))) : Ideal .f32))
      + (∑ _k : Fin 1, B * (FloatOps.sitofp .f32 (BitVec.setWidth 32 (IntOp.cmpi .eq (4095#32) (BitVec.ofNat 32 L))) : Ideal .f32))
    = A ⟨L, hL⟩ := by
  have hind : ∀ k : ℕ, k < 4096 →
      (FloatOps.sitofp .f32 (BitVec.setWidth 32 (IntOp.cmpi .eq (BitVec.ofNat 32 k) (BitVec.ofNat 32 L))) : Ideal .f32)
        = (if k = L then 1 else 0 : EReal) := fun k hk => by
    have : (BitVec.ofNat 32 k == BitVec.ofNat 32 L) = decide (k = L) := by
      rw [Bool.eq_iff_iff]
      simp only [beq_iff_eq, decide_eq_true_eq]
      constructor
      · intro h
        have := congrArg BitVec.toNat h
        simp only [BitVec.toNat_ofNat] at this
        omega
      · intro h; rw [h]
    show (FloatOps.sitofp .f32 (BitVec.setWidth 32 (BitVec.ofBool (BitVec.ofNat 32 k == BitVec.ofNat 32 L))) : Ideal .f32) = _
    rw [this, sitofp_bit]
  have h4095 := hind 4095 (by omega)
  rw [if_neg (by omega)] at h4095
  rw [Finset.sum_eq_single (⟨L, hL⟩ : Fin 4095)]
  · rw [hind L (by omega), if_pos rfl, mul_one]
    simp only [h4095, mul_zero, Finset.sum_const_zero, add_zero]
  · intro k _ hk
    rw [hind k.val (by omega), if_neg fun e => hk (Fin.ext e), mul_zero]
  · intro h; exact absurd (Finset.mem_univ _) h

/-- The one-hot sum over all frames picks one frame. -/
theorem onehot_all (A : Fin 4096 → EReal) (L : ℕ) (hL : L < 4095) :
    (∑ k : Fin 4096, A k * (FloatOps.sitofp .f32 (BitVec.setWidth 32 (IntOp.cmpi .eq (BitVec.ofNat 32 k.val) (BitVec.ofNat 32 L))) : Ideal .f32))
    = A ⟨L, by omega⟩ := by
  rw [Fin.sum_univ_castSucc (n := 4095)]
  refine Eq.trans ?_ (onehot (fun k => A ⟨k.val, by omega⟩) (A ⟨4095, by omega⟩) L hL)
  refine congrArg₂ (· + ·) rfl ?_
  rw [Finset.sum_const, Finset.card_univ, Fintype.card_fin, one_smul]
  rfl

/-- The word of a small natural, read as a signed integer. -/
theorem toInt_word (n : ℕ) (h : n ≤ 4096) : (BitVec.ofNat 32 n).toInt = (n : Int) := by
  rw [BitVec.toInt_eq_toNat_of_lt (by rw [BitVec.toNat_ofNat]; norm_num; omega), BitVec.toNat_ofNat]
  norm_num; omega

/-- A word holding `n ≤ 4096`, clamped into the row. -/
theorem clip_word (n : ℕ) (h : n ≤ 4096) :
    IntOp.minsi 4095#32 (IntOp.maxsi 0#32 (BitVec.ofNat 32 n)) = BitVec.ofNat 32 (min n 4095) := by
  have ht : (BitVec.ofNat 32 n).toInt = (n : Int) := by
    exact toInt_word n (by omega)
  have e1 : IntOp.maxsi 0#32 (BitVec.ofNat 32 n) = BitVec.ofNat 32 n := by
    unfold IntOp.maxsi
    rw [if_neg]
    rw [BitVec.slt, ht]; simp
  rw [e1]
  unfold IntOp.minsi
  rw [BitVec.slt, ht]
  by_cases h5 : 4095 < n
  · rw [if_pos (by simpa using h5), min_eq_right (by omega)]
  · rw [if_neg (by simpa using h5), min_eq_left (by omega)]

/-- The same of the word before it: the clamp of `n - 1`, the word of minus one clamped to zero. -/
theorem clip_pred_word (n : ℕ) (h : n ≤ 4096) :
    IntOp.minsi 4095#32 (IntOp.maxsi 0#32 (IntOp.subi (BitVec.ofNat 32 n) 1#32)) = BitVec.ofNat 32 (n - 1) := by
  rcases Nat.eq_zero_or_pos n with rfl | hn
  · decide
  · have e : IntOp.subi (BitVec.ofNat 32 n) 1#32 = BitVec.ofNat 32 (n - 1) := by
      unfold IntOp.subi
      apply BitVec.eq_of_toNat_eq
      rw [BitVec.toNat_sub, BitVec.toNat_ofNat, BitVec.toNat_ofNat]
      norm_num
      omega
    rw [e, clip_word _ (by omega), min_eq_left (by omega)]

/-- A word holding a small natural is not negative, so the wrap of negative indices leaves it. -/
theorem wrap_word (m : ℕ) (h : m ≤ 4095) :
    Scalar.select (IntOp.cmpi .slt (BitVec.ofNat 32 m) 0#32) (IntOp.addi (BitVec.ofNat 32 m) 4096#32) (BitVec.ofNat 32 m)
      = BitVec.ofNat 32 m := by
  have ht : (BitVec.ofNat 32 m).toInt = (m : Int) := by
    exact toInt_word m (by omega)
  have : IntOp.cmpi .slt (BitVec.ofNat 32 m) 0#32 = 0#1 := by
    show BitVec.ofBool ((BitVec.ofNat 32 m).slt 0#32) = 0#1
    rw [BitVec.slt, ht]
    have h0 : ¬ ((m : Int) < (0#32 : BitVec 32).toInt) := by simp
    rw [decide_eq_false h0]; rfl
  rw [this]; rfl

/-- The word of a small natural, read signed. -/
theorem toNat_word (m : ℕ) (h : m ≤ 4096) : (BitVec.ofNat 32 m).toInt.toNat = m := by
  have ht : (BitVec.ofNat 32 m).toInt = (m : Int) := by
    exact toInt_word m (by omega)
  rw [ht]; rfl

/-- A count's word is at most zero exactly when the count is zero. -/
theorem sle_zero_word (n : ℕ) (h : n ≤ 4096) : IntOp.cmpi .sle (BitVec.ofNat 32 n) 0#32 = BitVec.ofBool (decide (n = 0)) := by
  have ht : (BitVec.ofNat 32 n).toInt = (n : Int) := by
    exact toInt_word n (by omega)
  show BitVec.ofBool ((BitVec.ofNat 32 n).sle 0#32) = _
  rw [BitVec.sle, ht]
  congr 1
  simp

/-- A count's word is at least 4096 exactly when the count is. -/
theorem sge_word (n : ℕ) (h : n ≤ 4096) : IntOp.cmpi .sge (BitVec.ofNat 32 n) 4096#32 = BitVec.ofBool (decide (4096 ≤ n)) := by
  have ht : (BitVec.ofNat 32 n).toInt = (n : Int) := by
    exact toInt_word n (by omega)
  show BitVec.ofBool ((4096#32).sle (BitVec.ofNat 32 n)) = _
  rw [BitVec.sle, ht]
  congr 1
  simp

/-- Selection by a truth value is an `if`. -/
theorem select_bit {α : Type} (p : Prop) [Decidable p] (a b : α) :
    Scalar.select (BitVec.ofBool (decide p)) a b = if p then a else b := by
  by_cases h : p
  · rw [if_pos h, decide_eq_true h]; rfl
  · rw [if_neg h, decide_eq_false h]; rfl

/-! ## The flux of a row, infinite entries included -/

/-- Absolute value, as both programs compute it. -/
def eabs (a : EReal) : EReal := max a (-a)

theorem eabs_nonneg (a : EReal) : 0 ≤ eabs a := by
  unfold eabs
  rcases le_total 0 a with h | h
  · exact le_max_of_le_left h
  · exact le_max_of_le_right (by rwa [EReal.le_neg, neg_zero])

/-- A difference with an infinite subtrahend has infinite absolute value, whatever the minuend. -/
theorem eabs_sub_inf (a b : EReal) (hb : ¬ IsR b) : eabs (a - b) = ⊤ := by
  unfold eabs
  induction b using EReal.rec with
  | bot => induction a using EReal.rec <;> simp [sub_eq_add_neg]
  | coe r => exact absurd (IsR.coe r) hb
  | top => induction a using EReal.rec <;> simp [sub_eq_add_neg]

/-- A sum of nonnegative terms one of which is infinite is infinite. -/
theorem sum_top {ι : Type} (s : Finset ι) (f : ι → EReal) (h0 : ∀ i ∈ s, 0 ≤ f i) (i : ι) (hi : i ∈ s) (ht : f i = ⊤) :
    ∑ i ∈ s, f i = ⊤ :=
  le_antisymm le_top (ht ▸ Finset.single_le_sum (f := f) h0 hi)

/-- Anything over an infinite denominator is zero. -/
theorem div_top' (a : EReal) : Ideal.div a ⊤ = 0 := by
  unfold Ideal.div
  rw [if_neg EReal.top_ne_zero, EReal.inv_top, mul_zero]

/-- A nonnegative value over `80` is nonnegative. -/
theorem div80_nonneg (a : EReal) (h : 0 ≤ a) : 0 ≤ Ideal.div a ((80 : ℝ) : EReal) := by
  rw [Ideal.div_coe (by norm_num)]
  exact mul_nonneg h (by exact_mod_cast (by norm_num : (0 : ℝ) ≤ 1 / 80))

theorem div80_top : Ideal.div ⊤ ((80 : ℝ) : EReal) = ⊤ := by
  rw [Ideal.div_coe (by norm_num)]
  exact EReal.top_mul_coe_of_pos (by norm_num)

theorem div4096_top : Ideal.div ⊤ ((4096 : ℝ) : EReal) = ⊤ := by
  rw [Ideal.div_coe (by norm_num)]
  exact EReal.top_mul_coe_of_pos (by norm_num)

section
variable (x : Fin 4096 → Fin 80 → EReal)

/-- The flux as the kernel has it: the first frame is compared with itself. -/
def kflux (t : Fin 4096) : EReal :=
  Ideal.div (∑ k, eabs (x t k - if h : t.val < 1 then x t k else x ⟨t.val - 1, by omega⟩ k)) ((80 : ℝ) : EReal)

theorem kflux_nonneg (t : Fin 4096) : 0 ≤ kflux x t :=
  div80_nonneg _ (Finset.sum_nonneg fun k _ => eabs_nonneg _)

/-- From the second frame on it is the flux. -/
theorem kflux_pos (t : Fin 4096) (h : ¬ t.val < 1) : kflux x t = flux x t := by
  unfold kflux flux
  rw [dif_neg h]
  simp only [dif_neg h]
  rfl

theorem flux_nonneg (t : Fin 4096) : 0 ≤ flux x t := by
  by_cases h : t.val < 1
  · unfold flux; rw [dif_pos h]
  · rw [← kflux_pos x t h]; exact kflux_nonneg x t

/-- Where the first frame is real the two are one. -/
theorem kflux_eq (h0 : ∀ k, IsR (x 0 k)) : kflux x = flux x := by
  funext t
  by_cases h : t.val < 1
  · have ht : t = 0 := Fin.ext (by show t.val = 0; omega)
    subst ht
    unfold kflux flux
    rw [dif_pos h]
    have : (∑ k, eabs (x 0 k - if h : (0 : Fin 4096).val < 1 then x 0 k else x ⟨(0 : Fin 4096).val - 1, by omega⟩ k)) = 0 := by
      refine Finset.sum_eq_zero fun k _ => ?_
      rw [dif_pos h, (h0 k).sub_self]
      simp [eabs]
    rw [this, Ideal.div_coe (by norm_num), zero_mul]
  · exact kflux_pos x t h

/-- The boundary strength of the kernel's flux is that of the flux: the same flux where the first frame is real, and
    otherwise the mean of either is infinite, so that both strengths are zero throughout. -/
theorem strength_kflux (t : Fin 4096) : Ideal.div (kflux x t) (meanT (kflux x) + eps) = strength x t := by
  by_cases h0 : ∀ k, IsR (x 0 k)
  · rw [kflux_eq x h0]; rfl
  · push Not at h0
    obtain ⟨k, hk⟩ := h0
    have h1 : ¬ (1 : Fin 4096).val < 1 := by decide
    have hk1 : kflux x 1 = ⊤ := by
      unfold kflux
      rw [sum_top _ _ (fun k _ => eabs_nonneg _) k (Finset.mem_univ k), div80_top]
      rw [dif_neg h1]
      exact eabs_sub_inf _ _ hk
    have hm : ∀ f : Fin 4096 → EReal, (∀ t, 0 ≤ f t) → f 1 = ⊤ → meanT f + eps = ⊤ := fun f hf hf1 => by
      obtain ⟨e, _, he⟩ := eps_real
      unfold meanT
      rw [sum_top _ _ (fun t _ => hf t) 1 (Finset.mem_univ _) hf1, div4096_top, he]
      exact EReal.top_add_coe e
    unfold strength
    rw [hm _ (kflux_nonneg x) hk1, hm _ (flux_nonneg x) (by rw [← kflux_pos x 1 h1]; exact hk1), div_top', div_top']

end

end Cert.Row

end
-- ==== Proof.KernelRow.lean ====
/- What the kernel computes from one block of four rows, read at an index: each payload of the kernel body is the row
   mathematics of `Spec.lean` at the block's row. -/
module

public import proofs.«01_k».proof.Proof.Gen.KernelIdeal.Frame
public import proofs.«01_k».proof.Proof.Laws
public import Idealize.ShloMosaic.Lib.Pointwise

@[expose] public section

set_option maxRecDepth 16384

noncomputable section

namespace Cert.KernelIdeal.Row

open Idealize.ShloMosaic Idealize.ShloMosaic.TcCoe Idealize.SL.Sem
open Cert.KernelIdeal Cert.KernelIdeal.Gen Cert.Row

/-- Row `r` of a block of four rows. -/
def row (x0 : FVec Ideal S4x4096x80 .f32) (r : Fin 4) : Fin 4096 → Fin 80 → EReal := fun t k => x0 (ix3 r t k)

/-- The named reciprocal of the number of mel bins. -/
theorem named_inv : (Named.named κ "inv_m" 0x3C4CCCCD#32 : Ideal .f32) = ((80⁻¹ : ℝ) : EReal) := rfl

section
variable (x0 : FVec Ideal S4x4096x80 .f32) (r : Fin 4)

/-- The flux of a frame. -/
theorem pay3_apply (t : Fin 4096) : k0_pay3 (F := Ideal) x0 (ix2 r t) = kflux (row x0 r) t := by
  pointwise [k0_pay3, k0_pay2]
  rw [named_inv, div80]
  rfl

/-- The speech mask. -/
theorem pay4_apply (t : Fin 4096) : k0_pay4 (F := Ideal) x0 (ix2 r t) = speech (row x0 r) t := by
  pointwise [k0_pay4, k0_pay2]
  rw [sitofp_bit]
  simp only [named_inv, ci4096, div80, div4096]
  rfl

/-- The pause mask. -/
theorem pay5_apply (t : Fin 4096) : k0_pay5 (F := Ideal) x0 (ix2 r t) = pause (row x0 r) t := by
  pointwise [k0_pay5, pay4_apply]
  rfl

/-- The speech total. -/
theorem pay6_apply (z : Fin 1) : k0_pay6 (F := Ideal) x0 (ix2 r z) = ∑ t, speech (row x0 r) t := by
  pointwise [k0_pay6, pay4_apply]

/-- The voiced ratio. -/
theorem pay7_apply (z : Fin 1) : k0_pay7 (F := Ideal) x0 (ix2 r z) = meanT (speech (row x0 r)) := by
  pointwise [k0_pay7, pay6_apply]
  rw [ci4096, div4096]
  rfl

/-- The pause total. -/
theorem pay8_apply (z : Fin 1) : k0_pay8 (F := Ideal) x0 (ix2 r z) = ∑ t, pause (row x0 r) t := by
  pointwise [k0_pay8, pay5_apply]

/-- The pause ratio. -/
theorem pay9_apply (z : Fin 1) : k0_pay9 (F := Ideal) x0 (ix2 r z) = meanT (pause (row x0 r)) := by
  pointwise [k0_pay9, pay8_apply]
  rw [ci4096, div4096]
  rfl

/-- The number of speech runs. -/
theorem pay10_apply (z : Fin 1) : k0_pay10 (F := Ideal) x0 (ix2 r z) = runs (speech (row x0 r)) := by
  pointwise [k0_pay10, pay4_apply]
  exact runs_cut _

/-- The mean speech run. -/
theorem pay12_apply (z : Fin 1) :
    k0_pay12 (F := Ideal) (k0_pay6 x0) (k0_pay10 x0) (k0_pay11 (F := Ideal) x0) (ix2 r z) = runMean (speech (row x0 r)) := by
  pointwise [k0_pay12, k0_pay11, pay6_apply, pay10_apply]
  rfl

/-- The mean pause run. -/
theorem pay13_apply (z : Fin 1) :
    k0_pay13 (F := Ideal) (k0_pay5 x0) (k0_pay8 x0) (ix2 r z) = runMean (pause (row x0 r)) := by
  pointwise [k0_pay13, pay5_apply, pay8_apply]
  rw [runs_cut (pause (row x0 r))]
  rfl

/-- The boundary strength. -/
theorem pay19_apply (t : Fin 4096) : k0_pay19 (F := Ideal) (k0_pay3 x0) (ix2 r t) = strength (row x0 r) t := by
  pointwise [k0_pay19, pay3_apply]
  rw [ci4096, div4096]
  exact strength_kflux _ _

end

/-! ## The prefix sum by doubling -/

/-- One doubling: a block's rows plus the same rows moved right by `d`, zeros entering. -/
def shiftAdd (d e : ℕ) (hs : S4x4096.Slices ![0, 0] ⟨2, ![4, e]⟩) (hc : Shape.Concatenates [⟨2, ![4, d]⟩, ⟨2, ![4, e]⟩] S4x4096 1)
    (z : FVec Ideal ⟨2, ![4, d]⟩ .f32) (v : FVec Ideal S4x4096 .f32) : FVec Ideal S4x4096 .f32 :=
  addf v (concatenate S4x4096 1 [⟨⟨2, ![4, d]⟩, z⟩, ⟨⟨2, ![4, e]⟩, extractStridedSlice ⟨2, ![4, e]⟩ ![0, 0] v hs⟩] hc)

/-- One doubling read at a frame. -/
theorem shiftAdd_apply (d e : ℕ) (hs : S4x4096.Slices ![0, 0] ⟨2, ![4, e]⟩)
    (hc : Shape.Concatenates [⟨2, ![4, d]⟩, ⟨2, ![4, e]⟩] S4x4096 1) (z : FVec Ideal ⟨2, ![4, d]⟩ .f32) (hz : ∀ j, z j = 0)
    (v : FVec Ideal S4x4096 .f32) (r : Fin 4) (t : Fin 4096) :
    shiftAdd d e hs hc z v (ix2 r t) = v (ix2 r t) + if h : t.val < d then 0 else v (ix2 r ⟨t.val - d, by omega⟩) := by
  have hde : d + e = 4096 := by
    have := hc.2.2
    simpa using this
  unfold shiftAdd
  show v (ix2 r t) + _ = _
  congr 1
  by_cases h : t.val < d
  · rw [dif_pos h]
    refine (concatenate_pair_apply_left (t := S4x4096) 1 z _ hc (ix2 r t) rfl (ix2 r (⟨t.val, h⟩ : Fin d)) fun b => ?_).trans (hz _)
    match b with
    | ⟨0, _⟩ => rfl
    | ⟨1, _⟩ => rfl
  · rw [dif_neg h]
    refine (concatenate_pair_apply_right (t := S4x4096) 1 z _ hc (ix2 r t) rfl rfl (ix2 r (⟨t.val - d, by omega⟩ : Fin e)) (fun b hb => ?_) ?_).trans ?_
    · match b with
      | ⟨0, _⟩ => rfl
      | ⟨1, _⟩ => exact absurd rfl hb
    · show t.val - d + d = t.val
      omega
    · refine extractStridedSlice_apply _ v hs _ _ fun a => ?_
      match a with
      | ⟨0, _⟩ => exact (Nat.zero_add _).symm
      | ⟨1, _⟩ => exact (Nat.zero_add _).symm

/-- A doubling of windows of width `w`. -/
theorem shiftAdd_wsum (w e : ℕ) (hs : S4x4096.Slices ![0, 0] ⟨2, ![4, e]⟩)
    (hc : Shape.Concatenates [⟨2, ![4, w]⟩, ⟨2, ![4, e]⟩] S4x4096 1) (z : FVec Ideal ⟨2, ![4, w]⟩ .f32) (hz : ∀ j, z j = 0)
    (v : FVec Ideal S4x4096 .f32) (f : Fin 4 → Fin 4096 → EReal) (hv : ∀ r t, v (ix2 r t) = wsum (f r) w t) (r : Fin 4) (t : Fin 4096) :
    shiftAdd w e hs hc z v (ix2 r t) = wsum (f r) (w + w) t :=
  (shiftAdd_apply w e hs hc z hz v r t).trans (wsum_double (f r) (fun t => v (ix2 r t)) w (hv r) t)

/-- A block of zeros. -/
theorem zeros_apply (s : Shape) (j : s.Idx) : (broadcast s (Scalar.ofBits .f32 0x00000000#32 : Ideal .f32)) j = 0 :=
  Ideal.ofBits_zero_f32

/-- The first six doublings: windows of 64. -/
theorem pay14_apply (v : FVec Ideal S4x4096 .f32) (f : Fin 4 → Fin 4096 → EReal) (hv : ∀ r t, v (ix2 r t) = f r t) (r : Fin 4)
    (t : Fin 4096) : k0_pay14 (F := Ideal) v (ix2 r t) = wsum (f r) 64 t :=
  shiftAdd_wsum 32 4064 slices_S4x4096_o0_0_S4x4064 concatenates_S4x32_S4x4064_S4x4096_d1 _ (zeros_apply _) _ f
    (shiftAdd_wsum 16 4080 slices_S4x4096_o0_0_S4x4080 concatenates_S4x16_S4x4080_S4x4096_d1 _ (zeros_apply _) _ f
    (shiftAdd_wsum 8 4088 slices_S4x4096_o0_0_S4x4088 concatenates_S4x8_S4x4088_S4x4096_d1 _ (zeros_apply _) _ f
    (shiftAdd_wsum 4 4092 slices_S4x4096_o0_0_S4x4092 concatenates_S4x4_S4x4092_S4x4096_d1 _ (zeros_apply _) _ f
    (shiftAdd_wsum 2 4094 slices_S4x4096_o0_0_S4x4094 concatenates_S4x2_S4x4094_S4x4096_d1 _ (zeros_apply _) _ f
    (shiftAdd_wsum 1 4095 slices_S4x4096_o0_0_S4x4095 concatenates_S4x1_S4x4095_S4x4096_d1 _ (zeros_apply _) v f
      fun r t => (hv r t).trans (wsum_one (f r) t)))))) r t

/-- The last six: the prefix sum. -/
theorem pay16_apply (v : FVec Ideal S4x4096 .f32) (f : Fin 4 → Fin 4096 → EReal) (hv : ∀ r t, v (ix2 r t) = f r t) (r : Fin 4)
    (t : Fin 4096) : k0_pay16 (F := Ideal) (k0_pay14 v) k0_pay15 (ix2 r t) = csum (f r) t :=
  (shiftAdd_wsum 2048 2048 slices_S4x4096_o0_0_S4x2048 concatenates_S4x2048_S4x2048_S4x4096_d1 _ (zeros_apply _) _ f
    (shiftAdd_wsum 1024 3072 slices_S4x4096_o0_0_S4x3072 concatenates_S4x1024_S4x3072_S4x4096_d1 _ (zeros_apply _) _ f
    (shiftAdd_wsum 512 3584 slices_S4x4096_o0_0_S4x3584 concatenates_S4x512_S4x3584_S4x4096_d1 _ (zeros_apply _) _ f
    (shiftAdd_wsum 256 3840 slices_S4x4096_o0_0_S4x3840 concatenates_S4x256_S4x3840_S4x4096_d1 _ (zeros_apply _) _ f
    (shiftAdd_wsum 128 3968 slices_S4x4096_o0_0_S4x3968 concatenates_S4x128_S4x3968_S4x4096_d1 _ (zeros_apply _) _ f
    (shiftAdd_wsum 64 4032 slices_S4x4096_o0_0_S4x4032 concatenates_S4x64_S4x4032_S4x4096_d1 _ (zeros_apply _) _ f
      (pay14_apply v f hv)))))) r t).trans (wsum_all (f r) t)

end Cert.KernelIdeal.Row

end
-- ==== Proof.KernelPick.lean ====
/- What the one-hot product of the kernel picks: the tracks at a frame and at the frame after it, and the weight between them. -/
module

public import proofs.«01_k».proof.Proof.KernelRow

@[expose] public section

set_option maxRecDepth 16384

noncomputable section

namespace Cert.KernelIdeal.Row

open Idealize.ShloMosaic Idealize.ShloMosaic.TcCoe Idealize.SL.Sem
open Cert.KernelIdeal Cert.KernelIdeal.Gen Cert.Row

/-- One of five tracks, by number. -/
def five (a b c d f : EReal) (n : ℕ) : EReal :=
  if n = 0 then b else if n = 1 then c else if n = 2 then d else if n = 3 then f else a

section
variable (a b c d e f : FVec Ideal S4x4096 .f32) (g : FVec Ideal S4x64x1 .f32) (r : Fin 4) (q : Fin 64) (L : ℕ) (hL : L < 4095)
  (hg : FloatOps.fptosi 32 (g (ix3 r q 0)) = BitVec.ofNat 32 L)

include hg

set_option maxHeartbeats 3200000 in
/-- The left-hand tracks picked by the one-hot product. -/
theorem pay28_apply (ch : Fin 5) :
    k0_pay28 (F := Ideal) a b c d e f g (ix3 r q ch) =
      five (a (ix2 r ⟨L, by omega⟩)) (b (ix2 r ⟨L, by omega⟩)) (c (ix2 r ⟨L, by omega⟩)) (d (ix2 r ⟨L, by omega⟩))
        (f (ix2 r ⟨L, by omega⟩)) ch.val := by
  pointwise [k0_pay28, k0_pay27]
  rw [hg]
  fin_vals ch with hch <;> simp only [hch, Nat.reduceSub, Nat.reduceLT, ↓reduceDIte]
  · exact onehot (fun k => b (ix2 r ⟨k.val, by omega⟩)) _ L hL
  · exact onehot (fun k => c (ix2 r ⟨k.val, by omega⟩)) _ L hL
  · exact onehot (fun k => d (ix2 r ⟨k.val, by omega⟩)) _ L hL
  · exact onehot (fun k => f (ix2 r ⟨k.val, by omega⟩)) _ L hL
  · exact onehot (fun k => a (ix2 r ⟨k.val, by omega⟩)) _ L hL

set_option maxHeartbeats 3200000 in
/-- The right-hand tracks, one frame later. -/
theorem pay29_apply (ch : Fin 5) :
    k0_pay29 (F := Ideal) a b c d e f g (ix3 r q ch) =
      five (a (ix2 r ⟨1 + L, by omega⟩)) (b (ix2 r ⟨1 + L, by omega⟩)) (c (ix2 r ⟨1 + L, by omega⟩)) (d (ix2 r ⟨1 + L, by omega⟩))
        (f (ix2 r ⟨1 + L, by omega⟩)) ch.val := by
  pointwise [k0_pay29, k0_pay27]
  rw [hg]
  fin_vals ch with hch <;> simp only [hch, Nat.reduceSub, Nat.reduceLT, Nat.reduceAdd, ↓reduceDIte]
  · exact onehot (fun k => b (ix2 r ⟨1 + k.val, by omega⟩)) _ L hL
  · exact onehot (fun k => c (ix2 r ⟨1 + k.val, by omega⟩)) _ L hL
  · exact onehot (fun k => d (ix2 r ⟨1 + k.val, by omega⟩)) _ L hL
  · exact onehot (fun k => f (ix2 r ⟨1 + k.val, by omega⟩)) _ L hL
  · exact onehot (fun k => a (ix2 r ⟨1 + k.val, by omega⟩)) _ L hL

set_option maxHeartbeats 3200000 in
/-- The unclipped weight: the progress is picked in three parts, of which the last two vanish. -/
theorem pay30_apply (he : ∀ t, IsR (e (ix2 r t))) (p : FVec Ideal S1x64x1 .f32) (z : Fin 1) :
    k0_pay30 (F := Ideal) a b c d e f p g (ix3 r q z) =
      Ideal.div (p (ix3 0 q 0) - e (ix2 r ⟨L, by omega⟩))
        (max (max (e (ix2 r ⟨1 + L, by omega⟩) - e (ix2 r ⟨L, by omega⟩)) (-(e (ix2 r ⟨1 + L, by omega⟩) - e (ix2 r ⟨L, by omega⟩)))) eps) := by
  pointwise [k0_pay30, k0_pay27]
  rw [hg]
  have h0 : ∀ t, e (ix2 r t) - e (ix2 r t) = 0 := fun t => (he t).sub_self
  simp only [h0, sub_zero, zero_mul, Finset.sum_const_zero, add_zero]
  have e1 := onehot_all (fun k => e (ix2 r k)) L hL
  have e2 := onehot (fun k => e (ix2 r ⟨1 + k.val, by omega⟩)) (e (ix2 r 4095)) L hL
  rw [e1, e2]
  rfl

end

end Cert.KernelIdeal.Row

end
-- ==== Proof.KernelOut.lean ====
/- The two result blocks of the kernel body, read at an index: the row statistics and the resampled tracks of `Spec.lean`. -/
module

public import proofs.«01_k».proof.Proof.KernelPick

@[expose] public section

set_option maxRecDepth 16384

noncomputable section

namespace Cert.KernelIdeal.Row

open Idealize.ShloMosaic Idealize.ShloMosaic.TcCoe Idealize.SL.Sem
open Cert.KernelIdeal Cert.KernelIdeal.Gen Cert.Row

section
variable (x0 : FVec Ideal S4x4096x80 .f32) (x1 : FVec Ideal S1x4096 .f32) (x2 : FVec Ideal S1x64x1 .f32) (r : Fin 4)

/-- The uniform ramp of a block. -/
def ramp (x1 : FVec Ideal S1x4096 .f32) : Fin 4096 → EReal := fun t => x1 (ix2 0 t)

/-- The prefix sum of the speech mask. -/
theorem psum_apply (t : Fin 4096) : k0_pay16 (F := Ideal) (k0_pay14 (k0_pay4 x0)) k0_pay15 (ix2 r t) = csum (speech (row x0 r)) t :=
  pay16_apply (k0_pay4 x0) (fun r => speech (row x0 r)) (pay4_apply x0) r t

/-- The speech rate over the last sixteen frames. -/
theorem pay17_apply (t : Fin 4096) : k0_pay17 (F := Ideal) (k0_pay14 (k0_pay4 x0)) k0_pay15 (ix2 r t) = rate (row x0 r) t := by
  pointwise [k0_pay17, psum_apply]
  rw [ci16, div16]
  rfl

/-- The trend of the rate. -/
theorem pay18_apply (z : Fin 1) : k0_pay18 (F := Ideal) (k0_pay14 (k0_pay4 x0)) k0_pay15 (ix2 r z) = trend (row x0 r) := by
  pointwise [k0_pay18, pay17_apply]
  rw [ci2048, trend_eq]

/-- The progress. -/
theorem pay21_apply (t : Fin 4096) :
    k0_pay21 (F := Ideal) (k0_pay6 x0) (k0_pay16 (k0_pay14 (k0_pay4 x0)) k0_pay15) x1 (ix2 r t) = progress (row x0 r) (ramp x1) t := by
  pointwise [k0_pay21, k0_pay20, psum_apply, pay6_apply]
  rfl

/-- The progress less the ramp. -/
theorem pay22_apply (t : Fin 4096) :
    k0_pay22 (F := Ideal) (k0_pay6 x0) (k0_pay16 (k0_pay14 (k0_pay4 x0)) k0_pay15) x1 (ix2 r t) = bias (row x0 r) (ramp x1) t := by
  pointwise [k0_pay22, k0_pay20, pay21_apply]
  rfl

/-- The targets of the resampling. -/
theorem pay24_apply (q : Fin 64) : k0_pay24 (F := Ideal) x2 (ix3 0 q 0) = x2 (ix3 0 q 0) := by
  pointwise [k0_pay24]

/-- The number of frames whose progress lies below the target. -/
theorem pay25_apply (q : Fin 64) (z : Fin 1) :
    k0_pay25 (F := Ideal) (k0_pay6 x0) (k0_pay16 (k0_pay14 (k0_pay4 x0)) k0_pay15) x1 x2 (ix3 r q z)
      = ((count (row x0 r) (ramp x1) (x2 (ix3 0 q 0)) : ℝ) : EReal) := by
  pointwise [k0_pay25, k0_pay24, pay21_apply]
  simp only [sitofp_bit]
  exact sum_ind _ _

/-- The left-hand frame number. -/
theorem pay26_apply (q : Fin 64) (z : Fin 1) :
    k0_pay26 (F := Ideal) (k0_pay6 x0) (k0_pay16 (k0_pay14 (k0_pay4 x0)) k0_pay15) x1 x2 (ix3 r q z)
      = min ((4095 : ℝ) : EReal) (max 0 (((count (row x0 r) (ramp x1) (x2 (ix3 0 q 0)) : ℝ) : EReal) - 1)) := by
  pointwise [k0_pay26, pay25_apply]
  rw [c4095]

set_option maxHeartbeats 3200000 in
/-- The block of statistics. -/
theorem stats_apply (z : Fin 1) (ch : Fin 6) : out0_3 (F := Ideal) x0 x1 x2 (ix3 r z ch) = stats (row x0 r) ch := by
  unfold_out out0_3
  rw [View.canon_unit_zero (by decide)]
  simp only [r0_0, View.ld_unit_zero (S := S4x4096x80) (by decide : (![0, 0, 0] : Fin 3 → ℕ) = fun _ => 0)]
  pointwise [k0_pay23, pay7_apply, pay9_apply, pay12_apply, pay13_apply, pay18_apply, pay19_apply]
  simp only [sitofp_bit, ci4096, div4096]
  unfold stats
  fin_vals ch with hch <;> simp only [hch, Nat.reduceSub, Nat.reduceLT, ↓reduceDIte] <;> rfl

/-- The ladder of five tracks of the kernel is the row's track. -/
theorem track_five (x : Fin 4096 → Fin 80 → EReal) (u : Fin 4096 → EReal) (t : Fin 4096) (ch : Fin 5) :
    five (speech x t) (pause x t) (rate x t) (strength x t) (bias x u t) ch.val = track x u t ch := rfl

set_option maxHeartbeats 3200000 in
/-- The block of resampled tracks, for a ramp of real numbers. -/
theorem trace_apply (hu : ∀ t, IsR (ramp x1 t)) (q : Fin 64) (ch : Fin 5) :
    out0_4 (F := Ideal) x0 x1 x2 (ix3 r q ch) = trace (row x0 r) (ramp x1) (x2 (ix3 0 q 0)) ch := by
  unfold_out out0_4
  rw [View.canon_unit_zero (by decide)]
  simp only [r0_0, r0_1, r0_3, View.ld_unit_zero (S := S4x4096x80) (by decide : (![0, 0, 0] : Fin 3 → ℕ) = fun _ => 0),
    View.ld_unit_zero (S := S1x64x1) (by decide : (![0, 0, 0] : Fin 3 → ℕ) = fun _ => 0),
    View.ld_unit_zero (S := S1x4096) (by decide : (![0, 0] : Fin 2 → ℕ) = fun _ => 0)]
  pointwise [k0_pay1, pay4_apply, pay5_apply, pay17_apply, pay19_apply, pay22_apply, pay25_apply]
  have hn := count_le (row x0 r) (ramp x1) (x2 (ix3 0 q 0))
  have hpr := progress_real (row x0 r) (ramp x1) hu
  unfold trace
  have hg := pay26_apply x0 x1 x2 r q 0
  generalize hcn : count (row x0 r) (ramp x1) (x2 (ix3 0 q 0)) = n at *
  rw [c4096]
  by_cases h1 : 4096 ≤ n
  · rw [if_pos h1, if_pos (by exact_mod_cast h1)]
    unfold track
    fin_vals ch with hch <;> simp only [hch, Nat.reduceSub, Nat.reduceLT, Nat.reduceAdd, ↓reduceDIte] <;> rfl
  · rw [if_neg h1, if_neg (by exact_mod_cast h1)]
    by_cases h2 : n = 0
    · rw [if_pos h2, if_pos (by rw [h2]; simp)]
      unfold track
      fin_vals ch with hch <;> simp only [hch, Nat.reduceSub, Nat.reduceLT, Nat.reduceAdd, ↓reduceDIte] <;> rfl
    · rw [if_neg h2, if_neg (by rw [not_le]; exact_mod_cast Nat.pos_of_ne_zero h2)]
      have hL : n - 1 < 4095 := by omega
      have hw : FloatOps.fptosi 32 (k0_pay26 (F := Ideal) (k0_pay6 x0) (k0_pay16 (k0_pay14 (k0_pay4 x0)) k0_pay15) x1 x2 (ix3 r q 0))
          = BitVec.ofNat 32 (n - 1) := by
        rw [hg]; exact fptosi_left n (by omega) (by omega)
      have f1 : Cert.Row.frame (n - 1) = ⟨n - 1, by omega⟩ := Fin.ext (by show min (n - 1) 4095 = n - 1; omega)
      have f2 : Cert.Row.frame n = ⟨1 + (n - 1), by omega⟩ := Fin.ext (by show min n 4095 = 1 + (n - 1); omega)
      rw [pay28_apply _ _ _ _ _ _ _ r q (n - 1) hL hw, pay29_apply _ _ _ _ _ _ _ r q (n - 1) hL hw,
        pay30_apply _ _ _ _ _ _ _ r q (n - 1) hL hw (fun t => by rw [pay21_apply]; exact hpr t)]
      simp only [pay4_apply, pay5_apply, pay17_apply, pay19_apply, pay22_apply, pay21_apply, track_five]
      unfold alpha
      rw [hcn, f1, f2, pay24_apply]

end

end Cert.KernelIdeal.Row

end
-- ==== Proof.Ramp.lean ====
/- The uniform ramp `linspace(0, 1, n + 1)` as both programs compute it, read at an index. -/
module

public import proofs.«01_k».proof.Proof.Laws

@[expose] public section

noncomputable section

namespace Cert.Row

open Idealize.ShloMosaic

/-- Point `i` of the ramp whose last point is number `n` and whose divisor is the constant of bit pattern `w`: the blend
    `0·(1 - i/w) + i/w` before the last point, and `1` at it. -/
def point (w : BitVec 32) (n i : ℕ) : EReal :=
  if i < n then 0 * (1 - Ideal.div (FloatOps.sitofp (F := Ideal) .f32 (BitVec.ofNat 32 i)) (Ideal.ofBits .f32 w))
    + Ideal.div (FloatOps.sitofp (F := Ideal) .f32 (BitVec.ofNat 32 i)) (Ideal.ofBits .f32 w) else 1

/-- The points of the long ramp are real numbers. -/
theorem point_real (i : ℕ) : IsR (point 0x457FF000#32 4095 i) := by
  unfold point
  have h : IsR (Ideal.div (FloatOps.sitofp (F := Ideal) .f32 (BitVec.ofNat 32 i)) (Ideal.ofBits .f32 0x457FF000#32)) := by
    rw [c4095]
    refine IsR.div (IsR.coe _) (IsR.coe _) ?_
    exact_mod_cast (by norm_num : (4095 : ℝ) ≠ 0)
  split
  · exact (IsR.zero.mul (IsR.one.sub h)).add h
  · exact IsR.one

end Cert.Row
-- ==== Proof.KernelHost.lean ====
/- The two host ramps the kernel is handed (`linspace(0, 1, 4096)` and `linspace(0, 1, 64)`), read at an index. -/
module

public import proofs.«01_k».proof.Proof.KernelOut
public import proofs.«01_k».proof.Proof.Ramp
public import proofs.«01_k».proof.Proof.Gen.KernelIdeal.Frame
public import Idealize.ShloMosaic.Lib.Claim

@[expose] public section

set_option maxRecDepth 16384

noncomputable section

namespace Cert.KernelIdeal.Row

open Idealize.ShloMosaic Idealize.ShloMosaic.TcCoe Idealize.SL.Sem
open Cert.KernelIdeal Cert.KernelIdeal.Gen Cert.Row

variable (m : (ℓ : Loc nD τ sig) → Buf (Elt Ideal) ℓ) (c : Dev nD)

/-- The long ramp, as the region finds it. -/
theorem V_ramp (t : Fin 4096) : (V m c main_v1 : FVec Ideal S1x4096 .f32) (ix2 0 t) = point 0x457FF000#32 4095 t.val := by
  dsimp only [V, V0, hostOps0, hostOps0_1, hostOps0_2, hostOps0_3, hostOps0_4, List.flatten_cons, List.flatten_nil,
    List.append_nil, List.cons_append, List.nil_append]
  after_results
  simp only [StableHlo.TRef.ofBuf, StableHlo.TRef.toBuf, id_eq, cast_cast, cast_eq]
  pointwise
  exact dite_eq_ite

/-- The resampling targets, as the region finds them. -/
theorem V_target (q : Fin 64) : (V m c main_v3 : FVec Ideal S1x64x1 .f32) (ix3 0 q 0) = point 0x427C0000#32 63 q.val := by
  dsimp only [V, V0, hostOps0, hostOps0_1, hostOps0_2, hostOps0_3, hostOps0_4, List.flatten_cons, List.flatten_nil,
    List.append_nil, List.cons_append, List.nil_append]
  after_results
  simp only [StableHlo.TRef.ofBuf, StableHlo.TRef.toBuf, id_eq, cast_cast, cast_eq]
  pointwise
  exact dite_eq_ite

end Cert.KernelIdeal.Row
-- ==== Proof.KernelRun.lean ====
/- The kernel's run: what its two result arrays hold after the four grid points and the closing reshape. -/
module

public import proofs.«01_k».proof.Proof.KernelHost
public import Idealize.ShloMosaic.Lib.Pipeline.ValueKit

@[expose] public section

set_option maxRecDepth 16384

noncomputable section

namespace Cert.KernelIdeal.Row

open Idealize.ShloMosaic Idealize.ShloMosaic.TcCoe Idealize.SL.Sem
open Idealize.ShloMosaic.Pipeline (Dat)
open Cert.KernelIdeal Cert.KernelIdeal.Gen Cert.Row

variable (m : (ℓ : Loc nD τ sig) → Buf (Elt Ideal) ℓ) (ρ : Dev nD → PrngReg) (c : Dev nD)

/-- Row `b` of the argument array. -/
def arg (b : Fin 16) : Fin 4096 → Fin 80 → EReal :=
  fun t k => (m ((c : Thread nD τ).loc main_arg0) : FVec Ideal S16x4096x80 .f32) (ix3 b t k)

/-- The statistics of every row. -/
def statsArr : FVec Ideal S16x1x6 .f32 := fun i => stats (arg m c (i 0)) (i 2)

/-- The resampled tracks of every row. -/
def traceArr : FVec Ideal S16x64x5 .f32 := fun i =>
  trace (arg m c (i 0)) (fun t => point 0x457FF000#32 4095 t.val) (point 0x427C0000#32 63 (i 1).val) (i 2)

/-- Which block each window is on: grid point `t` takes rows `4t … 4t+3`, and the two ramps whole. -/
theorem idx : ∀ t : Fin cfg0.N, win0_0.index t = ![t.val, 0, 0] ∧ win0_1.index t = ![0, 0] ∧ win0_2.index t = ![0, 0, 0]
    ∧ win0_3.index t = ![t.val, 0, 0] ∧ win0_4.index t = ![t.val, 0, 0] :=
  (by decide +kernel : ∀ t : Fin grid0.N, _)

/-- There are four grid points. -/
theorem point_lt (t : Fin cfg0.N) : t.val < 4 := by
  have h := t.isLt
  have e : cfg0.N = 4 := N_0
  omega

/-- Row `r` of point `t`'s block is row `4t + r` of the argument. -/
theorem row_blk (t : Fin cfg0.N) (r : Fin 4) :
    row (iblk m c 0 t) r = arg m c ⟨t.val * 4 + r.val, by have := point_lt t; omega⟩ := by
  funext s k
  unfold row arg
  rw [← V_main_arg0 m c]
  have e := (idx t).1
  blk_simp [iblk, e]
  refine congrArg (V m c main_arg0) ?_
  blk_ext [e]

/-- The ramp block is the ramp. -/
theorem ramp_blk (t : Fin cfg0.N) : ramp (iblk m c 1 t) = fun s => point 0x457FF000#32 4095 s.val := by
  funext s
  unfold ramp
  rw [← V_ramp m c]
  have e := (idx t).2.1
  blk_simp [iblk, e]
  refine congrArg (V m c main_v1) ?_
  blk_ext [e]

/-- The target block is the targets. -/
theorem target_blk (t : Fin cfg0.N) (q : Fin 64) :
    (iblk m c 2 t : FVec Ideal S1x64x1 .f32) (ix3 0 q 0) = point 0x427C0000#32 63 q.val := by
  rw [← V_target m c]
  have e := (idx t).2.2.1
  blk_simp [iblk, e]
  refine congrArg (V m c main_v3) ?_
  blk_ext [e]

/-- The first result array after the last point. -/
theorem final3 : (dats m 0 c).arrAt 3 cfg0.N = statsArr m c := by
  refine (dats m 0 c).arrAt_eq_of_covers 3 _ (by decide +kernel) fun t _ y => ?_
  blk_simp
  rw [after0_3]
  have e := (idx t).2.2.2.1
  obtain ⟨r, z, ch, rfl⟩ : ∃ (r : Fin 4) (z : Fin 1) (ch : Fin 6), y = ix3 r z ch := ⟨y 0, y 1, y 2, eq_ix3 y⟩
  refine (stats_apply (iblk m c 0 t) (iblk m c 1 t) (iblk m c 2 t) r z ch).trans ?_
  rw [row_blk]
  unfold statsArr
  refine congrArg₂ (fun a b => stats (arg m c a) b) (Fin.ext ?_) (Fin.ext ?_)
  · blk_simp [e]
  · blk_simp [e]

/-- The second result array after the last point. -/
theorem final4 : (dats m 0 c).arrAt 4 cfg0.N = traceArr m c := by
  refine (dats m 0 c).arrAt_eq_of_covers 4 _ (by decide +kernel) fun t _ y => ?_
  blk_simp
  rw [after0_4]
  have e := (idx t).2.2.2.2
  obtain ⟨r, q, ch, rfl⟩ : ∃ (r : Fin 4) (q : Fin 64) (ch : Fin 5), y = ix3 r q ch := ⟨y 0, y 1, y 2, eq_ix3 y⟩
  refine (trace_apply (iblk m c 0 t) (iblk m c 1 t) (iblk m c 2 t) r (fun s => ?_) q ch).trans ?_
  · rw [ramp_blk]
    exact point_real s.val
  rw [row_blk, ramp_blk, target_blk]
  have h0 : (⟨t.val * 4 + r.val, by have := point_lt t; omega⟩ : Fin 16) = (win0_4.blk t).view.emb (ix3 r q ch) 0 := by
    refine Fin.ext ?_
    blk_simp [e]
  have h1 : q.val = ((win0_4.blk t).view.emb (ix3 r q ch) 1).val := by
    blk_simp [e]
  have h2 : ch = (win0_4.blk t).view.emb (ix3 r q ch) 2 := by
    refine Fin.ext ?_
    blk_simp [e]
  unfold traceArr
  rw [h0, h1]
  exact congrArg (trace _ _ _) h2

/-- The statistics without their unit axis: the closing reshape. -/
def statsOut : FVec Ideal S16x6 .f32 := fun i => stats (arg m c (i 0)) (i 1)

/-- The reshape moves row `b`, channel `ch` to row `b`, channel `ch`. -/
theorem tail : Pipeline.afterTail₀ cfgs (dats m) 0 (V0 m) [hostOps1] c main_v5 = statsOut m c := by
  have h : Pipeline.withArrays (cfgs 0).spec c (V0 m c) (fun w => (dats m 0 c).arrAt w (cfgs 0).N) (Proc.devRef .tc main_v4_0)
      = statsArr m c :=
    (Pipeline.withArrays_arr (cfgs 0).spec launch0.win.arr_inj c (V0 m c) (fun w => (dats m 0 c).arrAt w (cfgs 0).N) 3).trans
      (final3 m c)
  show StableHlo.after [StableHlo.reshape main_v4_0 main_v5 (rfl : (.f32 : EltTy) = .f32) shapeCasts_S16x1x6_S16x6] _ _ = _
  rw [StableHlo.after_cons, StableHlo.after_nil]
  refine (StableHlo.reshape_result ..).trans ?_
  rw [h]
  funext i
  show shapeCast S16x6 (statsArr m c) shapeCasts_S16x1x6_S16x6 i = statsOut m c i
  obtain ⟨b, ch, rfl⟩ : ∃ (b : Fin 16) (ch : Fin 6), i = ix2 b ch := ⟨i 0, i 1, eq_ix2 i⟩
  pointwise
  rfl

/-- The kernel's run: both results, and the argument unchanged. -/
theorem run : θ_run defs (onTc (τ := τ) (main (F := Ideal))) ⟨m, fun _ => 0, ρ⟩ fun r => ∀ c : Dev nD,
      r.2.mem ((c : Thread nD τ).loc main_v5) = statsOut m c
      ∧ r.2.mem ((c : Thread nD τ).loc main_v4_1) = traceArr m c
      ∧ r.2.mem ((c : Thread nD τ).loc main_arg0) = m ((c : Thread nD τ).loc main_arg0) :=
  (θ_run defs _ _).mono (fun _ h c => ⟨((h c).2 main_v5 (by decide)).trans (tail m c), ((h c).1 4).trans (final4 m c),
      ((h c).1 0).trans (((dats m 0 c).arrAt_in 0 rfl _).trans ((A_eq m c 0).trans (V_main_arg0 m c)))⟩)
    (run_main m ρ)

end Cert.KernelIdeal.Row
-- ==== Proof.RefOps.lean ====
/- The reference's window sum and its two gathers, read at an index. -/
module

public import proofs.«01_k».proof.Proof.Gen.ReferenceIdeal.Read
public import proofs.«01_k».proof.Proof.Laws
public import Idealize.ShloMosaic.Lib.Pointwise
public import Idealize.ShloMosaic.Lib.Routing.Ops

@[expose] public section

set_option maxRecDepth 16384

noncomputable section

namespace Cert.ReferenceIdeal.Row

open Idealize.ShloMosaic Idealize.ShloMosaic.TcCoe Idealize.SL.Sem
open Cert.ReferenceIdeal Cert.ReferenceIdeal.Read Cert.Row

/-- A left fold of additions is the start plus the sum. -/
theorem foldl_add {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

/-- The window sum of width `4096`, padded on the left, is the prefix sum. -/
theorem window_apply (v : FVec Ideal S16x4096 .f32) (init : FVec Ideal S_ .f32) (h0 : ∀ i, init i = 0)
    (h : S16x4096.ReduceWindows ![1, 4096] ![1, 1] ![0, 4095] ![0, 0] S16x4096) (hu : 0 < S_.numel) (b : Fin 16) (t : Fin 4096) :
    Host.reduceWindowAdd ![1, 4096] ![1, 1] ![0, 4095] ![0, 0] v init h hu (ix2 b t) = csum (fun t => v (ix2 b t)) t := by
  unfold Host.reduceWindowAdd
  rw [Ideal.hostReduceWindowAdd_def]
  unfold Ideal.hostReduceWindowAdd Host.reduceWindow
  dsimp only
  rw [foldl_add, h0, zero_add, ← Fin.sum_univ_def, ← csum_window]
  refine Fintype.sum_equiv (finCongr (Routing.numel2 4096)) _ _ fun n => ?_
  have hw0 : ((Routing.shape2 1 4096).rowMajor.symm n 0).val = 0 := by rw [Routing.symm2]; rfl
  have hw : ((Routing.shape2 1 4096).rowMajor.symm n 1).val = n.val := by rw [Routing.symm2]; rfl
  have hn : n.val < 4096 := (n.cast (Routing.numel2 _)).isLt
  have ht := t.isLt
  have hb := b.isLt
  have hc : (finCongr (Routing.numel2 4096) n).val = n.val := rfl
  by_cases hle : 4095 ≤ t.val + n.val
  · refine (dif_pos (fun a => by
      match a with
      | ⟨0, _⟩ =>
        show 0 ≤ b.val * 1 + ((Routing.shape2 1 4096).rowMajor.symm n 0).val ∧ b.val * 1 + ((Routing.shape2 1 4096).rowMajor.symm n 0).val - 0 < 16
        rw [hw0]; omega
      | ⟨1, _⟩ =>
        show 4095 ≤ t.val * 1 + ((Routing.shape2 1 4096).rowMajor.symm n 1).val ∧ t.val * 1 + ((Routing.shape2 1 4096).rowMajor.symm n 1).val - 4095 < 4096
        rw [hw]; omega)).trans ?_
    refine Eq.trans ?_ (dif_pos (by rw [hc]; exact hle)).symm
    refine congrArg v (funext fun a => Fin.ext ?_)
    match a with
    | ⟨0, _⟩ =>
      show b.val * 1 + ((Routing.shape2 1 4096).rowMajor.symm n 0).val - 0 = b.val
      rw [hw0]; omega
    | ⟨1, _⟩ =>
      show t.val * 1 + ((Routing.shape2 1 4096).rowMajor.symm n 1).val - 4095 = t.val + n.val - 4095
      rw [hw]; omega
  · refine (dif_neg (fun hin => hle (by
      have h1 := (hin 1).1
      change 4095 ≤ t.val * 1 + ((Routing.shape2 1 4096).rowMajor.symm n 1).val at h1
      rw [hw] at h1; omega))).trans (Eq.trans ?_ (dif_neg (by rw [hc]; exact hle)).symm)
    first | rfl | exact h0 _

/-- The gather from a table of rows, at a frame number that is in range. -/
theorem gather2_apply (v : FVec Ideal S16x4096 .f32) (idx : IVec S16x64x1 32) (b : Fin 16) (q : Fin 64) (m : ℕ) (hm : m ≤ 4095)
    (hi : idx (ix3 b q 0) = BitVec.ofNat 32 m) :
    Host.gather gather_S16x4096_S16x64x1_S16x64_n_1_0_0_1_2_11 v idx (ix2 b q) = v (ix2 b ⟨m, by omega⟩) := by
  unfold Host.gather
  refine congrArg v (funext fun a => Fin.ext ?_)
  show GatherDims.start _ (ix2 b q) idx a + GatherDims.batchCoord _ (ix2 b q) a + GatherDims.offCoord _ (ix2 b q) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16x4096_S16x64x1_S16x64_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16x4096_S16x64x1_S16x64_n_1_0_0_1_2_11.startIndexMap from List.mem_singleton.mpr rfl)]
    have hsi : gather_S16x4096_S16x64x1_S16x64_n_1_0_0_1_2_11.siIdx (ix2 b q)
        ⟨List.idxOf (1 : Fin 2) gather_S16x4096_S16x64x1_S16x64_n_1_0_0_1_2_11.startIndexMap,
        List.idxOf_lt_length_iff.2 (List.mem_singleton.mpr rfl)⟩ = ix3 b q 0 := by
      funext c; refine Fin.ext ?_
      match c with
      | ⟨0, _⟩ => rfl
      | ⟨1, _⟩ => rfl
      | ⟨2, _⟩ => rfl
    rw [hsi, hi, toNat_word m (by omega)]
    show min m 4095 = m
    omega

/-- The gather of the tracks, at a frame number that is in range. -/
theorem gather3_apply (v : FVec Ideal S16x4096x5 .f32) (idx : IVec S16x64x1 32) (b : Fin 16) (q : Fin 64) (c : Fin 5) (m : ℕ)
    (hm : m ≤ 4095) (hi : idx (ix3 b q 0) = BitVec.ofNat 32 m) :
    Host.gather gather_S16x4096x5_S16x64x1_S16x64x5_2_1_0_0_1_2_115 v idx (ix3 b q c) = v (ix3 b ⟨m, by omega⟩ c) := by
  unfold Host.gather
  refine congrArg v (funext fun a => Fin.ext ?_)
  show GatherDims.start _ (ix3 b q c) idx a + GatherDims.batchCoord _ (ix3 b q c) a + GatherDims.offCoord _ (ix3 b q c) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S16x4096x5_S16x64x1_S16x64x5_2_1_0_0_1_2_115.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S16x4096x5_S16x64x1_S16x64x5_2_1_0_0_1_2_115.startIndexMap from List.mem_singleton.mpr rfl)]
    have hsi : gather_S16x4096x5_S16x64x1_S16x64x5_2_1_0_0_1_2_115.siIdx (ix3 b q c)
        ⟨List.idxOf (1 : Fin 3) gather_S16x4096x5_S16x64x1_S16x64x5_2_1_0_0_1_2_115.startIndexMap,
        List.idxOf_lt_length_iff.2 (List.mem_singleton.mpr rfl)⟩ = ix3 b q 0 := by
      funext c; refine Fin.ext ?_
      match c with
      | ⟨0, _⟩ => rfl
      | ⟨1, _⟩ => rfl
      | ⟨2, _⟩ => rfl
    rw [hsi, hi, toNat_word m (by omega)]
    show min m 4095 = m
    omega
  · rw [GatherDims.batchCoord_eq_zero _ _ _ (fun h => absurd (List.mem_singleton.mp h) (by decide))]
    have hk : (2 : Fin 3) ∈ gather_S16x4096x5_S16x64x1_S16x64x5_2_1_0_0_1_2_115.sKept :=
      (GatherDims.mem_sKept _ _).mpr ⟨fun h => absurd (List.mem_singleton.mp h) (by decide),
        fun h => absurd (List.mem_singleton.mp h) (by decide)⟩
    unfold GatherDims.start GatherDims.offCoord
    rw [dif_neg (show ¬ (2 : Fin 3) ∈ gather_S16x4096x5_S16x64x1_S16x64x5_2_1_0_0_1_2_115.startIndexMap from fun h => absurd (List.mem_singleton.mp h) (by decide)), dif_pos hk]
    simp only [Nat.add_zero, Nat.zero_add]
    rfl

end Cert.ReferenceIdeal.Row

end
-- ==== Proof.RefRow.lean ====
/- What the reference computes, read at an index: each of its stages is the row mathematics of `Spec.lean`. -/
module

public import proofs.«01_k».proof.Proof.RefOps

@[expose] public section

set_option maxRecDepth 16384

noncomputable section

namespace Cert.ReferenceIdeal.Row

open Idealize.ShloMosaic Idealize.ShloMosaic.TcCoe Idealize.SL.Sem
open Cert.ReferenceIdeal Cert.ReferenceIdeal.Read Cert.Row

/-- Row `b` of the input. -/
def row (X : FVec Ideal S16x4096x80 .f32) (b : Fin 16) : Fin 4096 → Fin 80 → EReal := fun t k => X (ix3 b t k)

/-- The reference's zero, once read. -/
theorem id_zero : id (constant S_ .f32 0x00000000#32 : FVec Ideal S_ .f32) ix0 = 0 := Ideal.ofBits_zero_f32

/-- The reference's one, once read. -/
theorem id_one : id (constant S_ .f32 0x3F800000#32 : FVec Ideal S_ .f32) ix0 = 1 := Ideal.ofBits_one_f32

section
variable (X : FVec Ideal S16x4096x80 .f32) (b : Fin 16)

/-- The frame energy. -/
theorem v2_apply (t : Fin 4096) : val_main_v2 (F := Ideal) X (ix2 b t) = energy (row X b) t := by
  pointwise [val_main_v2, val_main_v0, val_main_cst, val_main_v1, val_main_cst_0]
  rw [c80]
  rfl

/-- The mean energy. -/
theorem v6_apply (z : Fin 1) : val_main_v6 (F := Ideal) X (ix2 b z) = meanEnergy (row X b) := by
  pointwise [val_main_v6, val_main_v4, val_main_v3, val_main_cst_1, val_main_v5, val_main_cst_2, v2_apply]
  rw [c4096]
  rfl

/-- The speech mask. -/
theorem v9_apply (t : Fin 4096) : val_main_v9 (F := Ideal) X (ix2 b t) = speech (row X b) t := by
  pointwise [val_main_v9, val_main_v8, val_main_v7, v2_apply, v6_apply]
  rw [uitofp_bit]
  rfl

/-- The pause mask. -/
theorem v11_apply (t : Fin 4096) : val_main_v11 (F := Ideal) X (ix2 b t) = pause (row X b) t := by
  pointwise [val_main_v11, val_main_v10, val_main_cst_3, v9_apply]
  rfl

/-- The voiced ratio. -/
theorem v14_apply : val_main_v14 (F := Ideal) X (ix1 b) = meanT (speech (row X b)) := by
  pointwise [val_main_v14, val_main_v12, val_main_cst_4, val_main_v13, val_main_cst_5, v9_apply]
  rw [c4096]
  rfl

/-- The pause ratio. -/
theorem v17_apply : val_main_v17 (F := Ideal) X (ix1 b) = meanT (pause (row X b)) := by
  pointwise [val_main_v17, val_main_v15, val_main_cst_6, val_main_v16, val_main_cst_7, v11_apply]
  rw [c4096]
  rfl

/-- The speech mask one frame earlier. -/
theorem v21_apply (t : Fin 4096) : val_main_v21 (F := Ideal) X (ix2 b t) = prev (speech (row X b)) t := by
  pointwise [val_main_v21, val_main_v19, val_main_cst_8, val_main_v20, v9_apply]
  rfl

/-- The pause mask one frame earlier. -/
theorem v36_apply (t : Fin 4096) : val_main_v36 (F := Ideal) X (ix2 b t) = prev (pause (row X b)) t := by
  pointwise [val_main_v36, val_main_v34, val_main_cst_15, val_main_v35, v11_apply]
  rfl

/-- The number of speech runs. -/
theorem v25_apply : val_main_v25 (F := Ideal) X (ix1 b) = runs (speech (row X b)) := by
  pointwise [val_main_v25, val_main_v24, val_main_v23, val_main_v22, val_main_cst_9, val_main_cst_10, v9_apply, v21_apply]
  rfl

/-- The number of pause runs. -/
theorem v40_apply : val_main_v40 (F := Ideal) X (ix1 b) = runs (pause (row X b)) := by
  pointwise [val_main_v40, val_main_v39, val_main_v38, val_main_v37, val_main_cst_16, val_main_cst_17, v11_apply, v36_apply]
  rfl

/-- The speech total. -/
theorem v26_apply : val_main_v26 (F := Ideal) X (ix1 b) = ∑ t, speech (row X b) t := by
  pointwise [val_main_v26, val_main_cst_11, v9_apply]

/-- The pause total. -/
theorem v41_apply : val_main_v41 (F := Ideal) X (ix1 b) = ∑ t, pause (row X b) t := by
  pointwise [val_main_v41, val_main_cst_18, v11_apply]

/-- The mean speech run. -/
theorem v32_apply : val_main_v32 (F := Ideal) X (ix1 b) = runMean (speech (row X b)) := by
  pointwise [val_main_v32, val_main_v28, val_main_v27, val_main_cst_12, val_main_v31, val_main_v30, val_main_v29,
    val_main_cst_13, val_main_call0_v1, val_main_call0_v0, val_main_cst_14, v25_apply, v26_apply]
  rw [id_zero]
  rfl

/-- The mean pause run. -/
theorem v47_apply : val_main_v47 (F := Ideal) X (ix1 b) = runMean (pause (row X b)) := by
  pointwise [val_main_v47, val_main_v43, val_main_v42, val_main_cst_19, val_main_v46, val_main_v45, val_main_v44,
    val_main_cst_20, val_main_call1_v1, val_main_call1_v0, val_main_cst_21, v40_apply, v41_apply]
  rw [id_zero]
  rfl

/-- The prefix sum of the speech mask. -/
theorem v48_apply (t : Fin 4096) : val_main_v48 (F := Ideal) X (ix2 b t) = csum (speech (row X b)) t := by
  unfold val_main_v48
  rw [window_apply _ _ (fun i => by
    rw [val_main_call2_call0_v0_apply, val_main_call2_call0_cst_apply]
    exact Ideal.ofBits_zero_f32)]
  simp only [v9_apply]

/-- The prefix sum sixteen frames earlier. -/
theorem v51_apply (t : Fin 4096) : val_main_v51 (F := Ideal) X (ix2 b t)
    = if h : t.val < 16 then 0 else csum (speech (row X b)) ⟨t.val - 16, by omega⟩ := by
  pointwise [val_main_v51, val_main_v49, val_main_cst_22, val_main_v50, v48_apply]

/-- The speech rate. -/
theorem v54_apply (t : Fin 4096) : val_main_v54 (F := Ideal) X (ix2 b t) = rate (row X b) t := by
  pointwise [val_main_v54, val_main_v52, val_main_v53, val_main_cst_23, v48_apply, v51_apply]
  rw [c16]
  rfl

/-- The trend of the rate. -/
theorem v63_apply : val_main_v63 (F := Ideal) X (ix1 b) = trend (row X b) := by
  pointwise [val_main_v63, val_main_v58, val_main_v56, val_main_v55, val_main_cst_24, val_main_v57, val_main_cst_25,
    val_main_v62, val_main_v60, val_main_v59, val_main_cst_26, val_main_v61, val_main_cst_27, v54_apply]
  rw [c2048]
  rfl

/-- The flux. -/
theorem v70_apply (t : Fin 4096) : val_main_v70 (F := Ideal) X (ix2 b t) = flux (row X b) t := by
  pointwise [val_main_v70, val_main_v69, val_main_cst_30]
  unfold flux
  by_cases h : t.val < 1
  · rw [dif_pos h, dif_pos h]
  · rw [dif_neg h, dif_neg h]
    pointwise [val_main_v68, val_main_v66, val_main_v65, val_main_v64, val_main_call3_v0, val_main_call3_v1, val_main_cst_28,
    val_main_v67, val_main_cst_29]
    rw [c80]
    have e : (⟨1 + (t.val - 1), by omega⟩ : Fin 4096) = t := Fin.ext (by show 1 + (t.val - 1) = t.val; omega)
    exact congrArg (fun z => Ideal.div z ((80 : ℝ) : EReal)) (Finset.sum_congr rfl fun k _ =>
      congrArg (fun s => max (row X b s k - row X b ⟨t.val - 1, by omega⟩ k) (-(row X b s k - row X b ⟨t.val - 1, by omega⟩ k))) e)

/-- The boundary strength. -/
theorem v78_apply (t : Fin 4096) : val_main_v78 (F := Ideal) X (ix2 b t) = strength (row X b) t := by
  pointwise [val_main_v78, val_main_v77, val_main_v76, val_main_v74, val_main_v72, val_main_v71, val_main_cst_31, val_main_v73,
    val_main_cst_32, val_main_v75, val_main_cst_33, v70_apply]
  rw [c4096]
  rfl

/-- The boundary ratio. -/
theorem v84_apply : val_main_v84 (F := Ideal) X (ix1 b) = boundaryRatio (row X b) := by
  pointwise [val_main_v84, val_main_v82, val_main_v81, val_main_v80, val_main_v79, val_main_cst_34, val_main_cst_35,
    val_main_v83, val_main_cst_36, v78_apply]
  simp only [uitofp_bit, c4096]
  rfl

/-- The last prefix sum is the total. -/
theorem v85_apply (z : Fin 1) : val_main_v85 (F := Ideal) X (ix2 b z) = ∑ t, speech (row X b) t := by
  pointwise [val_main_v85, v48_apply]
  first | exact csum_last _ | rfl

/-- The uniform ramp of the reference. -/
def ramp : Fin 4096 → EReal := fun t => val_main_v90 (F := Ideal) (ix1 t)

/-- The ramp, spread over the rows. -/
theorem v92_apply (t : Fin 4096) : val_main_v92 (F := Ideal) (ix2 b t) = ramp t := by
  pointwise [val_main_v92, val_main_v91]
  rfl

/-- The progress. -/
theorem v95_apply (t : Fin 4096) : val_main_v95 (F := Ideal) X (ix2 b t) = progress (row X b) ramp t := by
  pointwise [val_main_v95, val_main_call5_v0, val_main_v94, val_main_v93, val_main_cst_40, val_main_v89, val_main_v88,
    val_main_v87, val_main_v86, val_main_cst_37, v48_apply, v85_apply, v92_apply]
  rfl

/-- The progress less the ramp. -/
theorem v96_apply (t : Fin 4096) : val_main_v96 (F := Ideal) X (ix2 b t) = bias (row X b) ramp t := by
  pointwise [val_main_v96, v95_apply, v92_apply]
  rfl

set_option maxHeartbeats 1600000 in
/-- The five tracks. -/
theorem v102_apply (t : Fin 4096) (c : Fin 5) : val_main_v102 (F := Ideal) X (ix3 b t c) = track (row X b) ramp t c := by
  pointwise [val_main_v102, val_main_v97, val_main_v98, val_main_v99, val_main_v100, val_main_v101, v11_apply, v54_apply,
    v78_apply, v96_apply, v9_apply]
  unfold track
  fin_vals c with hc <;> simp only [hc, Nat.reduceSub, Nat.reduceLT, ↓reduceDIte] <;> rfl

set_option maxHeartbeats 1600000 in
/-- The six statistics. -/
theorem v182_apply (c : Fin 6) : val_main_v182 (F := Ideal) X (ix2 b c) = stats (row X b) c := by
  pointwise [val_main_v182, val_main_v176, val_main_v177, val_main_v178, val_main_v179, val_main_v180, val_main_v181, v17_apply,
    v47_apply, v32_apply, v63_apply, v84_apply, v14_apply]
  unfold stats
  fin_vals c with hc <;> simp only [hc, Nat.reduceSub, Nat.reduceLT, ↓reduceDIte] <;> rfl

end

end Cert.ReferenceIdeal.Row

end
-- ==== Proof.RefTrace.lean ====
/- The resampled tracks of the reference, read at an index: the insertion count, the two gathers at the frames it names and
   the interpolation between them. -/
module

public import proofs.«01_k».proof.Proof.RefRow
public import Idealize.ShloMosaic.Lib.IndicatorCount

@[expose] public section

set_option maxRecDepth 16384

noncomputable section

namespace Cert.ReferenceIdeal.Row

open Idealize.ShloMosaic Idealize.ShloMosaic.TcCoe Idealize.SL.Sem
open Cert.ReferenceIdeal Cert.ReferenceIdeal.Read Cert.Row

/-- The resampling targets of the reference. -/
def target : Fin 64 → EReal := fun q => val_main_v103 (F := Ideal) (ix1 q)

section
variable (X : FVec Ideal S16x4096x80 .f32) (b : Fin 16) (q : Fin 64)

/-- The number of frames whose progress lies below the target. -/
theorem v111_apply : val_main_v111 (F := Ideal) X (ix2 b q) = BitVec.ofNat 32 (count (row X b) ramp (target q)) := by
  pointwise [val_main_v111, val_main_v110, val_main_v109, val_main_v107, val_main_v104, val_main_v108, val_main_v106,
    val_main_v105, val_main_c, v95_apply]
  refine (IndicatorCount.fold_addi_setWidth_eq_card _ _).trans (congrArg (BitVec.ofNat 32) ?_)
  unfold Cert.Row.count
  refine congrArg Finset.card (Finset.filter_congr fun t _ => ?_)
  show BitVec.ofBool (decide (progress (row X b) ramp t < target q)) = 1#1 ↔ _
  by_cases h : progress (row X b) ramp t < target q
  · simp [h]
  · simp [h]

/-- The word of the left-hand frame. -/
theorem v114_apply : val_main_v114 (F := Ideal) X (ix2 b q) = BitVec.ofNat 32 (count (row X b) ramp (target q) - 1) := by
  pointwise [val_main_v114, val_main_call7_v4, val_main_call7_v3, val_main_c_45, val_main_call7_v2, val_main_call7_v1,
    val_main_call7_v0, val_main_c_44, val_main_v113, val_main_v112, val_main_c_43, v111_apply]
  exact clip_pred_word _ (count_le _ _ _)

/-- The word of the right-hand frame. -/
theorem v115_apply : val_main_v115 (F := Ideal) X (ix2 b q) = BitVec.ofNat 32 (min (count (row X b) ramp (target q)) 4095) := by
  pointwise [val_main_v115, val_main_call8_v4, val_main_call8_v3, val_main_c_47, val_main_call8_v2, val_main_call8_v1,
    val_main_call8_v0, val_main_c_46, v111_apply]
  exact clip_word _ (count_le _ _ _)

/-- The left-hand frame number fits. -/
theorem left_le : count (row X b) ramp (target q) - 1 ≤ 4095 := by
  have := count_le (row X b) ramp (target q)
  omega

/-- The left-hand frame as an index. -/
theorem left_frame : (⟨count (row X b) ramp (target q) - 1, by have := left_le X b q; omega⟩ : Fin 4096)
    = Cert.Row.frame (count (row X b) ramp (target q) - 1) :=
  Fin.ext (Nat.min_eq_left (left_le X b q)).symm

/-- Progress at the left-hand frame. -/
theorem v122_apply : val_main_v122 (F := Ideal) X (ix2 b q) = progress (row X b) ramp (frame (count (row X b) ramp (target q) - 1)) := by
  have hi : val_main_v121 (F := Ideal) X (ix3 b q 0) = BitVec.ofNat 32 (count (row X b) ramp (target q) - 1) := by
    pointwise [val_main_v121, val_main_v120, val_main_v117, val_main_v116, val_main_c_48, val_main_v119, val_main_v118,
    val_main_c_49, v114_apply]
    exact wrap_word _ (left_le X b q)
  unfold val_main_v122
  rw [gather2_apply _ _ b q _ (left_le X b q) hi, v95_apply, left_frame]

/-- Progress at the right-hand frame. -/
theorem v129_apply : val_main_v129 (F := Ideal) X (ix2 b q) = progress (row X b) ramp (frame (count (row X b) ramp (target q))) := by
  have hi : val_main_v128 (F := Ideal) X (ix3 b q 0) = BitVec.ofNat 32 (min (count (row X b) ramp (target q)) 4095) := by
    pointwise [val_main_v128, val_main_v127, val_main_v124, val_main_v123, val_main_c_50, val_main_v126, val_main_v125,
    val_main_c_51, v115_apply]
    exact wrap_word _ (Nat.min_le_right _ _)
  unfold val_main_v129
  rw [gather2_apply _ _ b q _ (Nat.min_le_right _ _) hi, v95_apply]
  rfl

/-- The tracks at the left-hand frame. -/
theorem v145_apply (c : Fin 5) :
    val_main_v145 (F := Ideal) X (ix3 b q c) = track (row X b) ramp (frame (count (row X b) ramp (target q) - 1)) c := by
  have hi : val_main_v144 (F := Ideal) X (ix3 b q 0) = BitVec.ofNat 32 (count (row X b) ramp (target q) - 1) := by
    pointwise [val_main_v144, val_main_v143, val_main_v140, val_main_v139, val_main_c_55, val_main_v142, val_main_v141,
    val_main_c_56, v114_apply]
    exact wrap_word _ (left_le X b q)
  unfold val_main_v145
  rw [gather3_apply _ _ b q c _ (left_le X b q) hi, v102_apply, left_frame]

/-- The tracks at the right-hand frame. -/
theorem v157_apply (c : Fin 5) :
    val_main_v157 (F := Ideal) X (ix3 b q c) = track (row X b) ramp (frame (count (row X b) ramp (target q))) c := by
  have hi : val_main_v156 (F := Ideal) X (ix3 b q 0) = BitVec.ofNat 32 (min (count (row X b) ramp (target q)) 4095) := by
    pointwise [val_main_v156, val_main_v155, val_main_v152, val_main_v151, val_main_c_58, val_main_v154, val_main_v153,
    val_main_c_59, v115_apply]
    exact wrap_word _ (Nat.min_le_right _ _)
  unfold val_main_v157
  rw [gather3_apply _ _ b q c _ (Nat.min_le_right _ _) hi, v102_apply]
  rfl

/-- The interpolation weight. -/
theorem v138_apply : val_main_v138 (F := Ideal) X (ix2 b q) = alpha (row X b) ramp (target q) := by
  pointwise [val_main_v138, val_main_call9_v4, val_main_call9_v3, val_main_cst_54, val_main_call9_v2, val_main_call9_v1,
    val_main_call9_v0, val_main_cst_53]
  rw [id_zero, id_one]
  pointwise [val_main_v137, val_main_v136, val_main_v135, val_main_v134, v122_apply]
  pointwise [val_main_v133, val_main_v131, val_main_v130, val_main_v132, val_main_cst_52, v122_apply, v129_apply]
  rfl

/-- The interpolated tracks. -/
theorem v161_apply (c : Fin 5) : val_main_v161 (F := Ideal) X (ix3 b q c)
    = track (row X b) ramp (frame (count (row X b) ramp (target q) - 1)) c * (1 - alpha (row X b) ramp (target q))
      + track (row X b) ramp (frame (count (row X b) ramp (target q))) c * alpha (row X b) ramp (target q) := by
  pointwise [val_main_v161, val_main_v150, val_main_v149, val_main_v148, val_main_v147, val_main_v146, val_main_cst_57,
    val_main_v160, val_main_v159, val_main_v158, v145_apply, v157_apply, v138_apply]

/-- The resampled tracks. -/
theorem v175_apply (c : Fin 5) : val_main_v175 (F := Ideal) X (ix3 b q c) = trace (row X b) ramp (target q) c := by
  pointwise [val_main_v175, val_main_call11_v0, val_main_v171, val_main_v170, val_main_v169, val_main_c_61, val_main_call11_v1,
    val_main_v174, val_main_v173, val_main_v172, v111_apply, v102_apply]
  rw [sge_word _ (count_le _ _ _), select_bit]
  pointwise [val_main_v168, val_main_call10_v0, val_main_v164, val_main_v163, val_main_v162, val_main_c_60, val_main_call10_v1,
    val_main_v167, val_main_v166, val_main_v165, v111_apply, v102_apply, v161_apply]
  rw [sle_zero_word _ (count_le _ _ _), select_bit]
  rfl

end

end Cert.ReferenceIdeal.Row

end
-- ==== Proof.RefHost.lean ====
/- The reference's two ramps (`linspace(0, 1, 4096)` and `linspace(0, 1, 64)`), read at an index. -/
module

public import proofs.«01_k».proof.Proof.RefTrace
public import proofs.«01_k».proof.Proof.Ramp

@[expose] public section

set_option maxRecDepth 16384

noncomputable section

namespace Cert.ReferenceIdeal.Row

open Idealize.ShloMosaic Idealize.ShloMosaic.TcCoe Idealize.SL.Sem
open Cert.ReferenceIdeal Cert.ReferenceIdeal.Read Cert.Row

/-- The long ramp. -/
theorem ramp_eq (t : Fin 4096) : ramp t = point 0x457FF000#32 4095 t.val := by
  unfold ramp
  pointwise [id_eq, val_main_cst_38, val_main_cst_39, val_main_v90, val_main_call4_v16, val_main_call4_v15,
    val_main_call4_v14, val_main_call4_v13, val_main_call4_v12, val_main_call4_v11, val_main_call4_v10,
    val_main_call4_v9, val_main_call4_v8, val_main_call4_v7, val_main_call4_v6, val_main_call4_v5, val_main_call4_v4,
    val_main_call4_v3, val_main_call4_v2, val_main_call4_v1, val_main_call4_v0, val_main_call4_cst,
    val_main_call4_cst_0, val_main_call4_cst_1]
  exact dite_eq_ite

/-- The resampling targets. -/
theorem target_eq (q : Fin 64) : target q = point 0x427C0000#32 63 q.val := by
  unfold target
  pointwise [id_eq, val_main_cst_41, val_main_cst_42, val_main_v103, val_main_call6_v16, val_main_call6_v15,
    val_main_call6_v14, val_main_call6_v13, val_main_call6_v12, val_main_call6_v11, val_main_call6_v10,
    val_main_call6_v9, val_main_call6_v8, val_main_call6_v7, val_main_call6_v6, val_main_call6_v5, val_main_call6_v4,
    val_main_call6_v3, val_main_call6_v2, val_main_call6_v1, val_main_call6_v0, val_main_call6_cst,
    val_main_call6_cst_0, val_main_call6_cst_1]
  exact dite_eq_ite

end Cert.ReferenceIdeal.Row
-- ==== Proof.RefRun.lean ====
/- The reference's run: what its two results hold. -/
module

public import proofs.«01_k».proof.Proof.RefHost
public import proofs.«01_k».proof.Proof.Gen.ReferenceIdeal.Run

@[expose] public section

set_option maxRecDepth 16384

noncomputable section

namespace Cert.ReferenceIdeal.Row

open Idealize.ShloMosaic Idealize.ShloMosaic.TcCoe Idealize.SL.Sem
open Cert.ReferenceIdeal Cert.ReferenceIdeal.Gen Cert.ReferenceIdeal.Read Cert.Row

/-- The statistics of every row. -/
def statsOut (X : FVec Ideal S16x4096x80 .f32) : FVec Ideal S16x6 .f32 := fun i => stats (row X (i 0)) (i 1)

/-- The resampled tracks of every row. -/
def traceOut (X : FVec Ideal S16x4096x80 .f32) : FVec Ideal S16x64x5 .f32 := fun i =>
  trace (row X (i 0)) (fun t => point 0x457FF000#32 4095 t.val) (point 0x427C0000#32 63 (i 1).val) (i 2)

/-- The first result as a whole. -/
theorem v182_eq (X : FVec Ideal S16x4096x80 .f32) : val_main_v182 (F := Ideal) X = statsOut X := by
  funext i
  obtain ⟨b, ch, rfl⟩ : ∃ (b : Fin 16) (ch : Fin 6), i = ix2 b ch := ⟨i 0, i 1, eq_ix2 i⟩
  exact v182_apply X b ch

/-- The second result as a whole. -/
theorem v175_eq (X : FVec Ideal S16x4096x80 .f32) : val_main_v175 (F := Ideal) X = traceOut X := by
  funext i
  obtain ⟨b, q, ch, rfl⟩ : ∃ (b : Fin 16) (q : Fin 64) (ch : Fin 5), i = ix3 b q ch := ⟨i 0, i 1, i 2, eq_ix3 i⟩
  rw [v175_apply X b q ch, show ramp = fun t => point 0x457FF000#32 4095 t.val from funext ramp_eq, target_eq]
  rfl

variable (m : (ℓ : Loc nD τ sig) → Buf (Elt Ideal) ℓ) (ρ : Dev nD → PrngReg)

/-- The reference's run: both results, and the argument unchanged. -/
theorem run : θ_run defs (onTc (τ := τ) (main (F := Ideal))) ⟨m, fun _ => 0, ρ⟩ fun r => ∀ c : Dev nD,
      r.2.mem ((c : Thread nD τ).loc main_v182) = statsOut (m ((c : Thread nD τ).loc main_arg0))
      ∧ r.2.mem ((c : Thread nD τ).loc main_v175) = traceOut (m ((c : Thread nD τ).loc main_arg0))
      ∧ r.2.mem ((c : Thread nD τ).loc main_arg0) = m ((c : Thread nD τ).loc main_arg0) :=
  (θ_run defs _ _).mono (fun _ h c =>
      ⟨(h c).1.trans ((val_main_v182_eq (StableHlo.launchContents m c)).trans (v182_eq _)),
        (h c).2.1.trans ((val_main_v175_eq (StableHlo.launchContents m c)).trans (v175_eq _)), (h c).2.2⟩)
    (Cert.ReferenceIdeal.Value.run (F := Ideal) m ρ)

end Cert.ReferenceIdeal.Row

end
-- ==== Proof.lean ====
/- The proof of the claim: the three frames, the named constant, and the equality of the kernel's two results with the
   reference's. `KernelRun.lean` and `RefRun.lean` read both runs as the row mathematics of `Spec.lean`, and the two
   readings are the same function of the argument. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefRun
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference's frame: it has no semaphores, so every counter reads zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Both results of the kernel are the reference's, element by element. -/
theorem values : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Row.statsOut m c, fun c => Cert.KernelIdeal.Row.traceArr m c,
    Cert.KernelIdeal.Row.run m ρ, ?_⟩
  refine (θ_run Cert.ReferenceIdeal.defs _ _).mono (fun _ h c => ⟨(h c).1.trans ?_, (h c).2.1.trans ?_, (h c).2.2⟩)
    (Cert.ReferenceIdeal.Row.run m' ρ')
  · rw [hagree c]
    rfl
  · rw [hagree c]
    rfl

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame,
  IdealRules.named_const.statement Cert.KernelIdeal.κ "inv_m" .f32 0x3C4CCCCD#32 ((80⁻¹ : ℝ) : EReal) rfl, values⟩

end Cert.Proof

end
